-- ==== Defs.lean ====
def Pre_Kernel [hPre_experts_named : Cert.Pre_experts_named.Facts] (m : (ℓ : Loc Cert.Kernel.nD Cert.Kernel.τ Cert.Kernel.sig) → Buf (Elt Bits) ℓ) : Prop :=
  ∀ c : Dev Cert.Kernel.nD,
    (Cert.Pre_experts_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_experts_named : Cert.Pre_experts_named.Facts] (m : (ℓ : Loc Cert.KernelIdeal.nD Cert.KernelIdeal.τ Cert.KernelIdeal.sig) → Buf (Elt Ideal) ℓ) : Prop :=
  ∀ c : Dev Cert.KernelIdeal.nD,
    (Cert.Pre_experts_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_named [hPre_experts_named : Cert.Pre_experts_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] [hPre_experts_named : Cert.Pre_experts_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_experts_named : Cert.Pre_experts_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_experts_named [hReferenceIdeal : Cert.ReferenceIdeal.Facts] [hPre_experts_named : Cert.Pre_experts_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_named : Cert.Pre_experts_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v60_6)) (v1 : (c : Dev Cert.Kernel2Ideal.nD) → Buf (Elt Ideal) ((c.tc : Thread Cert.Kernel2Ideal.nD Cert.Kernel2Ideal.τ).loc Cert.Kernel2Ideal.main_v60_7)) (v2 : (c : Dev Cert.Kernel2Ideal.nD) → Buf (Elt Ideal) ((c.tc : Thread Cert.Kernel2Ideal.nD Cert.Kernel2Ideal.τ).loc Cert.Kernel2Ideal.main_v60_8)) (v3 : (c : Dev Cert.Kernel2Ideal.nD) → Buf (Elt Ideal) ((c.tc : Thread Cert.Kernel2Ideal.nD Cert.Kernel2Ideal.τ).loc Cert.Kernel2Ideal.main_v60_9)) (v4 : (c : Dev Cert.Kernel2Ideal.nD) → Buf (Elt Ideal) ((c.tc : Thread Cert.Kernel2Ideal.nD Cert.Kernel2Ideal.τ).loc Cert.Kernel2Ideal.main_v60_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v60_6) = v0 c
          ∧ r.2.mem ((c.tc : Thread Cert.Kernel2Ideal.nD Cert.Kernel2Ideal.τ).loc Cert.Kernel2Ideal.main_v60_7) = v1 c
          ∧ r.2.mem ((c.tc : Thread Cert.Kernel2Ideal.nD Cert.Kernel2Ideal.τ).loc Cert.Kernel2Ideal.main_v60_8) = v2 c
          ∧ r.2.mem ((c.tc : Thread Cert.Kernel2Ideal.nD Cert.Kernel2Ideal.τ).loc Cert.Kernel2Ideal.main_v60_9) = v3 c
          ∧ r.2.mem ((c.tc : Thread Cert.Kernel2Ideal.nD Cert.Kernel2Ideal.τ).loc Cert.Kernel2Ideal.main_v60_10) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_v65) = v1 c
          ∧ r.2.mem ((c.tc : Thread Cert.Reference2Ideal.nD Cert.Reference2Ideal.τ).loc Cert.Reference2Ideal.main_v66) = v2 c
          ∧ r.2.mem ((c.tc : Thread Cert.Reference2Ideal.nD Cert.Reference2Ideal.τ).loc Cert.Reference2Ideal.main_v67) = v3 c
          ∧ r.2.mem ((c.tc : Thread Cert.Reference2Ideal.nD Cert.Reference2Ideal.τ).loc Cert.Reference2Ideal.main_v68) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_experts_named : Cert.Pre_experts_named.Facts),
    quiescent_Kernel (hKernel := hKernel) (hPre_experts_named := hPre_experts_named)
    ∧ quiescent_KernelIdeal (hKernelIdeal := hKernelIdeal) (hPre_experts_named := hPre_experts_named)
    ∧ quiescent_ReferenceIdeal (hReferenceIdeal := hReferenceIdeal)
    ∧ quiescent_ReferenceIdeal_pre_experts_named (hReferenceIdeal := hReferenceIdeal) (hPre_experts_named := hPre_experts_named)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal) (hPre_experts_named := hPre_experts_named)
    ∧ preserves_Kernel2_Kernel2Ideal
    ∧ algebraic_Kernel2Ideal_Reference2Ideal (hKernel2Ideal := hKernel2Ideal) (hReference2Ideal := hReference2Ideal)
-- ==== Pre_experts_named.lean ====
abbrev S296 : Shape := ⟨1, ![296]⟩
abbrev S1 : Shape := ⟨1, ![1]⟩
abbrev S76288x1024 : Shape := ⟨2, ![76288, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S296 : S_.BroadcastsInDim S296 (![] : Fin 0 → Fin S296.rank)

variable [Facts]

def fn {F : FTy → Type} [FloatOps F] (main_arg0 : IVec S296 32) (main_arg1 : IVec S1 32) (main_arg2 : FVec F S76288x1024 .f32) (main_arg3 : FVec F S32x1024x2048 .f32) (main_arg4 : FVec F S32x1x2048 .f32) (main_arg5 : FVec F S32x1024x1024 .f32) (main_arg6 : FVec F S32x1x1024 .f32) : IVec S296 1 :=
  let main_c : IVec S_ 32 := constantI S_ 32 0#32
  let main_v0 : IVec S296 32 := broadcastInDim S296 ![] bcast_S_S296 main_c
  let main_v1 : IVec S296 1 := cmpi .sge main_arg0 main_v0
  let main_c_0 : IVec S_ 32 := constantI S_ 32 31#32
  let main_v2 : IVec S296 32 := broadcastInDim S296 ![] bcast_S_S296 main_c_0
  let main_v3 : IVec S296 1 := cmpi .sle main_arg0 main_v2
  let main_v4 : IVec S296 1 := andi main_v1 main_v3
  main_v4
-- ==== Kernel.lean ====
abbrev S296 : Shape := ⟨1, ![296]⟩
abbrev S1 : Shape := ⟨1, ![1]⟩
abbrev S76288x1024 : Shape := ⟨2, ![76288, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S75776x1024 : Shape := ⟨2, ![75776, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x128x2048 : Shape := ⟨3, ![1, 128, 2048]⟩
abbrev S128x2048 : Shape := ⟨2, ![128, 2048]⟩
abbrev S1x128x1024 : Shape := ⟨3, ![1, 128, 1024]⟩
abbrev S128x1024 : Shape := ⟨2, ![128, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S76288x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S75776x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S296, .i32⟩
  | .local _ .smem, ⟨1, _⟩ => ⟨S1, .i32⟩
  | _, _ => ⟨S76288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![296], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v8 : BitVec 32 := Scalar.subi arg0 c1_i32
  let c0_i32_2 : BitVec 32 := 0#32
  let v9 : BitVec 32 := Scalar.maxsi v8 c0_i32_2
  let v10 : Index := Scalar.indexCast v9
  ![v10.toNat]
def k0_off3 (i : grid0.Coords) : Fin 1 → Nat :=
  let arg0 : BitVec 32 := BitVec.ofNat 32 (i 0).val
  let v13 : Index := Scalar.indexCast arg0
  ![v13.toNat]
@[reducible] def k0_t1_loop : Scf.Loop 32 :=
  let c0_i32_27 : BitVec 32 := 0#32
  let c8_i32 : BitVec 32 := 8#32
  let v54 : BitVec 32 := Scalar.addi c0_i32_27 c8_i32
  let c1_i32_28 : BitVec 32 := 1#32
  ⟨c0_i32_27, v54, c1_i32_28⟩
def k0_mult1 (k0_t1 : Fin k0_t1_loop.trips) : BitVec 32 :=
  let c0_i32_27 : BitVec 32 := 0#32
  let c1_i32_28 : BitVec 32 := 1#32
  let arg11 : BitVec 32 := Scf.iv c0_i32_27 c1_i32_28 k0_t1
  let c128_i32 : BitVec 32 := 128#32
  let v55 : BitVec 32 := Scalar.muli arg11 c128_i32
  v55
def k0_off4 (k0_t1 : Fin k0_t1_loop.trips) : Fin 3 → Nat :=
  let c0_30 : Index := 0#32
  let c0_i32_27 : BitVec 32 := 0#32
  let c1_i32_28 : BitVec 32 := 1#32
  let arg11 : BitVec 32 := Scf.iv c0_i32_27 c1_i32_28 k0_t1
  let c128_i32 : BitVec 32 := 128#32
  let v55 : BitVec 32 := Scalar.muli arg11 c128_i32
  let v56 : BitVec 32 := v55
  let v57 : Index := Scalar.indexCast v56
  let c0_31 : Index := 0#32
  ![0, v57.toNat, 0]
def k0_off5 (k0_t1 : Fin k0_t1_loop.trips) : Fin 2 → Nat :=
  let c0_i32_27 : BitVec 32 := 0#32
  let c1_i32_28 : BitVec 32 := 1#32
  let arg11 : BitVec 32 := Scf.iv c0_i32_27 c1_i32_28 k0_t1
  let c128_i32 : BitVec 32 := 128#32
  let v55 : BitVec 32 := Scalar.muli arg11 c128_i32
  let v56 : BitVec 32 := v55
  let v61 : Index := Scalar.indexCast v56
  let c0_32 : Index := 0#32
  ![v61.toNat, 0]
def k0_off6 (k0_t1 : Fin k0_t1_loop.trips) : Fin 3 → Nat :=
  let c0_33 : Index := 0#32
  let c0_i32_27 : BitVec 32 := 0#32
  let c1_i32_28 : BitVec 32 := 1#32
  let arg11 : BitVec 32 := Scf.iv c0_i32_27 c1_i32_28 k0_t1
  let c128_i32 : BitVec 32 := 128#32
  let v55 : BitVec 32 := Scalar.muli arg11 c128_i32
  let v56 : BitVec 32 := v55
  let v65 : Index := Scalar.indexCast v56
  let c0_34 : Index := 0#32
  ![0, v65.toNat, 0]
def k0_off7 (k0_t1 : Fin k0_t1_loop.trips) : Fin 2 → Nat :=
  let c0_i32_27 : BitVec 32 := 0#32
  let c1_i32_28 : BitVec 32 := 1#32
  let arg11 : BitVec 32 := Scf.iv c0_i32_27 c1_i32_28 k0_t1
  let c128_i32 : BitVec 32 := 128#32
  let v55 : BitVec 32 := Scalar.muli arg11 c128_i32
  let v56 : BitVec 32 := v55
  let v69 : Index := Scalar.indexCast v56
  let c0_35 : Index := 0#32
  ![v69.toNat, 0]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S296 : Shape := ⟨1, ![296]⟩
abbrev S1 : Shape := ⟨1, ![1]⟩
abbrev S76288x1024 : Shape := ⟨2, ![76288, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S75776x1024 : Shape := ⟨2, ![75776, 1024]⟩
abbrev S296x256x1024 : Shape := ⟨3, ![296, 256, 1024]⟩
abbrev S296x1 : Shape := ⟨2, ![296, 1]⟩
abbrev S296x1024x2048 : Shape := ⟨3, ![296, 1024, 2048]⟩
abbrev S296x256x2048 : Shape := ⟨3, ![296, 256, 2048]⟩
abbrev S296x1x2048 : Shape := ⟨3, ![296, 1, 2048]⟩
abbrev S_ : Shape := ⟨0, ![]⟩
abbrev S296x1024x1024 : Shape := ⟨3, ![296, 1024, 1024]⟩
abbrev S296x1x1024 : Shape := ⟨3, ![296, 1, 1024]⟩
abbrev S296x1x1 : Shape := ⟨3, ![296, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S296, .i32⟩
  | .hbm, ⟨1, _⟩ => ⟨S1, .i32⟩
  | .hbm, ⟨2, _⟩ => ⟨S76288x1024, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S75776x1024, .f32⟩
  | .hbm, ⟨8, _⟩ => ⟨S296x256x1024, .f32⟩
  | .hbm, ⟨9, _⟩ => ⟨S296x1, .i32⟩
  | .hbm, ⟨10, _⟩ => ⟨S296x1024x2048, .f32⟩
  | .hbm, ⟨11, _⟩ => ⟨S296x256x2048, .f32⟩
  | .hbm, ⟨12, _⟩ => ⟨S296x1, .i32⟩
  | .hbm, ⟨13, _⟩ => ⟨S296x1x2048, .f32⟩
  | .hbm, ⟨14, _⟩ => ⟨S296x256x2048, .f32⟩
  | .hbm, ⟨15, _⟩ => ⟨S296x256x2048, .f32⟩
  | .hbm, ⟨16, _⟩ => ⟨S296x256x1024, .f32⟩
  | .hbm, ⟨17, _⟩ => ⟨S_, .f32⟩
  | .hbm, ⟨18, _⟩ => ⟨S296x256x1024, .f32⟩
  | .hbm, ⟨19, _⟩ => ⟨S296x256x1024, .f32⟩
  | .hbm, ⟨20, _⟩ => ⟨S296x256x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S296x256x1024, .f32⟩
  | .hbm, ⟨25, _⟩ => ⟨S296x256x1024, .f32⟩
  | .hbm, ⟨26, _⟩ => ⟨S_, .f32⟩
  | .hbm, ⟨27, _⟩ => ⟨S296x256x1024, .f32⟩
  | .hbm, ⟨28, _⟩ => ⟨S296x256x1024, .f32⟩
  | .hbm, ⟨29, _⟩ => ⟨S_, .f32⟩
  | .hbm, ⟨30, _⟩ => ⟨S296x256x1024, .f32⟩
  | .hbm, ⟨31, _⟩ => ⟨S296x256x1024, .f32⟩
  | .hbm, ⟨32, _⟩ => ⟨S296x256x1024, .f32⟩
  | .hbm, ⟨33, _⟩ => ⟨S296x256x1024, .f32⟩
  | .hbm, ⟨34, _⟩ => ⟨S_, .f32⟩
  | .hbm, ⟨35, _⟩ => ⟨S296x256x1024, .f32⟩
  | .hbm, ⟨36, _⟩ => ⟨S296x256x1024, .f32⟩
  | .hbm, ⟨37, _⟩ => ⟨S_, .f32⟩
  | .hbm, ⟨38, _⟩ => ⟨S296x256x1024, .f32⟩
  | .hbm, ⟨39, _⟩ => ⟨S296x256x1024, .f32⟩
  | .hbm, ⟨40, _⟩ => ⟨S296x256x1024, .f32⟩
  | .hbm, ⟨41, _⟩ => ⟨S_, .f32⟩
  | .hbm, ⟨42, _⟩ => ⟨S296x256x1024, .f32⟩
  | .hbm, ⟨43, _⟩ => ⟨S296x256x1024, .f32⟩
  | .hbm, ⟨44, _⟩ => ⟨S296x256x1024, .f32⟩
  | .hbm, ⟨45, _⟩ => ⟨S296x1, .i32⟩
  | .hbm, ⟨46, _⟩ => ⟨S296x1024x1024, .f32⟩
  | .hbm, ⟨47, _⟩ => ⟨S296x256x1024, .f32⟩
  | .hbm, ⟨48, _⟩ => ⟨S296x1, .i32⟩
  | .hbm, ⟨49, _⟩ => ⟨S296x1x1024, .f32⟩
  | .hbm, ⟨50, _⟩ => ⟨S296x256x1024, .f32⟩
  | .hbm, ⟨51, _⟩ => ⟨S296x256x1024, .f32⟩
  | .hbm, ⟨52, _⟩ => ⟨S296, .i32⟩
  | .hbm, ⟨53, _⟩ => ⟨S_, .i32⟩
  | .hbm, ⟨54, _⟩ => ⟨S296, .i32⟩
  | .hbm, ⟨55, _⟩ => ⟨S296, .i1⟩
  | .hbm, ⟨56, _⟩ => ⟨S296x1x1, .i1⟩
  | .hbm, ⟨57, _⟩ => ⟨S_, .f32⟩
  | .hbm, ⟨58, _⟩ => ⟨S_, .f32⟩
  | .hbm, ⟨59, _⟩ => ⟨S296x256x1024, .i1⟩
  | .hbm, ⟨60, _⟩ => ⟨S296x256x1024, .f32⟩
  | .hbm, ⟨61, _⟩ => ⟨S296x256x1024, .f32⟩
  | .hbm, ⟨62, _⟩ => ⟨S75776x1024, .f32⟩
  | _, _ => ⟨S296, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_cst_1 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call3_v0 : Ref sig .tc := ⟨.hbm, 45, rfl⟩
abbrev main_v24 : Ref sig .tc := ⟨.hbm, 46, rfl⟩
abbrev main_v25 : Ref sig .tc := ⟨.hbm, 47, rfl⟩
abbrev main_call4_v0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_call5_v0 : Ref sig .tc := ⟨.hbm, 58, rfl⟩
abbrev main_call5_v1 : Ref sig .tc := ⟨.hbm, 59, rfl⟩
abbrev main_call5_v2 : Ref sig .tc := ⟨.hbm, 60, rfl⟩
abbrev main_v34 : Ref sig .tc := ⟨.hbm, 61, rfl⟩
abbrev main_v35 : Ref sig .tc := ⟨.hbm, 62, rfl⟩

abbrev nD : Nat := 1
abbrev τ : Topo := Topo.v7x

variable {F : FTy → Type} [FloatOps F]
-- ==== Kernel2.lean ====
abbrev S2x8192x1024 : Shape := ⟨3, ![2, 8192, 1024]⟩
abbrev S8x64x1024 : Shape := ⟨3, ![8, 64, 1024]⟩
abbrev S1x8x128x2x64 : Shape := ⟨5, ![1, 8, 128, 2, 64]⟩
abbrev S1x1024 : Shape := ⟨2, ![1, 1024]⟩
abbrev S1x1024x1792 : Shape := ⟨3, ![1, 1024, 1792]⟩
abbrev S1x4x128 : Shape := ⟨3, ![1, 4, 128]⟩
abbrev S1x8 : Shape := ⟨2, ![1, 8]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024x32 : Shape := ⟨3, ![1, 1024, 32]⟩
abbrev S1x32 : Shape := ⟨2, ![1, 32]⟩
abbrev S1024 : Shape := ⟨1, ![1024]⟩
abbrev S1024x1792 : Shape := ⟨2, ![1024, 1792]⟩
abbrev S4x128 : Shape := ⟨2, ![4, 128]⟩
abbrev S8 : Shape := ⟨1, ![8]⟩
abbrev S2x4x1 : Shape := ⟨3, ![2, 4, 1]⟩
abbrev S2x4x64x1 : Shape := ⟨4, ![2, 4, 64, 1]⟩
abbrev S2x256x1 : Shape := ⟨3, ![2, 256, 1]⟩
abbrev S_ : Shape := ⟨0, ![]⟩
abbrev S2x4 : Shape := ⟨2, ![2, 4]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S2x4x1x1 : Shape := ⟨4, ![2, 4, 1, 1]⟩
abbrev S1x1x64x192 : Shape := ⟨4, ![1, 1, 64, 192]⟩
abbrev S2x4x64x192 : Shape := ⟨4, ![2, 4, 64, 192]⟩
abbrev S2x256x192 : Shape := ⟨3, ![2, 256, 192]⟩
abbrev S4x128x128 : Shape := ⟨3, ![4, 128, 128]⟩
abbrev S128x4 : Shape := ⟨2, ![128, 4]⟩
abbrev S512 : Shape := ⟨1, ![512]⟩
abbrev S1024x1024 : Shape := ⟨2, ![1024, 1024]⟩
abbrev S1024x32 : Shape := ⟨2, ![1024, 32]⟩
abbrev S32x1024 : Shape := ⟨2, ![32, 1024]⟩
abbrev S32 : Shape := ⟨1, ![32]⟩
abbrev S32x1 : Shape := ⟨2, ![32, 1]⟩
abbrev S16384x1024 : Shape := ⟨2, ![16384, 1024]⟩
abbrev S512x1024 : Shape := ⟨2, ![512, 1024]⟩
abbrev S8x128x2x64 : Shape := ⟨4, ![8, 128, 2, 64]⟩
abbrev S8x128x128 : Shape := ⟨3, ![8, 128, 128]⟩
abbrev S16896x1024 : Shape := ⟨2, ![16896, 1024]⟩
abbrev S4x16896 : Shape := ⟨2, ![4, 16896]⟩
abbrev S2x128x128 : Shape := ⟨3, ![2, 128, 128]⟩
abbrev S512x512 : Shape := ⟨2, ![512, 512]⟩
abbrev S4x512 : Shape := ⟨2, ![4, 512]⟩
abbrev S1x128x128 : Shape := ⟨3, ![1, 128, 128]⟩
abbrev S640x128 : Shape := ⟨2, ![640, 128]⟩
abbrev S128x128 : Shape := ⟨2, ![128, 128]⟩
abbrev S512x1 : Shape := ⟨2, ![512, 1]⟩
abbrev S512x1792 : Shape := ⟨2, ![512, 1792]⟩
abbrev S512x128 : Shape := ⟨2, ![512, 128]⟩
abbrev S1x128 : Shape := ⟨2, ![1, 128]⟩
abbrev S64x512 : Shape := ⟨2, ![64, 512]⟩
abbrev S192x128 : Shape := ⟨2, ![192, 128]⟩
abbrev S64x128 : Shape := ⟨2, ![64, 128]⟩
abbrev S256x128 : Shape := ⟨2, ![256, 128]⟩
abbrev S256x192 : Shape := ⟨2, ![256, 192]⟩
abbrev S1x256x192 : Shape := ⟨3, ![1, 256, 192]⟩
abbrev S1x256x1 : Shape := ⟨3, ![1, 256, 1]⟩
abbrev S256x1 : Shape := ⟨2, ![256, 1]⟩
abbrev S256 : Shape := ⟨1, ![256]⟩
abbrev S128x512 : Shape := ⟨2, ![128, 512]⟩
abbrev S128x1 : Shape := ⟨2, ![128, 1]⟩
abbrev S32x512 : Shape := ⟨2, ![32, 512]⟩

abbrev nBuf : Space → Nat
  | .hbm => 92
  | .vmem => 41
  | .smem => 0
  | _ => 0

abbrev bufTy : (tb : Table) → Fin (tcTables nBuf tb) → BufTy
  | .hbm, ⟨0, _⟩ => ⟨S2x8192x1024, .f32⟩
  | .hbm, ⟨1, _⟩ => ⟨S8x64x1024, .f32⟩
  | .hbm, ⟨2, _⟩ => ⟨S1x8x128x2x64, .f32⟩
  | .hbm, ⟨3, _⟩ => ⟨S1x8x128x2x64, .f32⟩
  | .hbm, ⟨4, _⟩ => ⟨S1x1024, .f32⟩
  | .hbm, ⟨5, _⟩ => ⟨S1x1024x1792, .f32⟩
  | .hbm, ⟨6, _⟩ => ⟨S1x4x128, .f32⟩
  | .hbm, ⟨7, _⟩ => ⟨S1x8, .f32⟩
  | .hbm, ⟨8, _⟩ => ⟨S1x4x128x128, .f32⟩
  | .hbm, ⟨9, _⟩ => ⟨S1x4x128, .f32⟩
  | .hbm, ⟨10, _⟩ => ⟨S1x512, .f32⟩
  | .hbm, ⟨11, _⟩ => ⟨S1x512, .f32⟩
  | .hbm, ⟨12, _⟩ => ⟨S1x1024x1024, .f32⟩
  | .hbm, ⟨13, _⟩ => ⟨S1x1024, .f32⟩
  | .hbm, ⟨14, _⟩ => ⟨S1x1024x32, .f32⟩
  | .hbm, ⟨15, _⟩ => ⟨S1x32, .f32⟩
  | .hbm, ⟨16, _⟩ => ⟨S1024, .f32⟩
  | .hbm, ⟨17, _⟩ => ⟨S1x1024, .f32⟩
  | .hbm, ⟨18, _⟩ => ⟨S1024x1792, .f32⟩
  | .hbm, ⟨19, _⟩ => ⟨S1024x1792, .bf16⟩
  | .hbm, ⟨20, _⟩ => ⟨S4x128, .f32⟩
  | .hbm, ⟨21, _⟩ => ⟨S1x512, .f32⟩
  | .hbm, ⟨22, _⟩ => ⟨S8, .f32⟩
  | .hbm, ⟨23, _⟩ => ⟨S2x4x1, .f32⟩
  | .hbm, ⟨24, _⟩ => ⟨S2x4x64x1, .f32⟩
  | .hbm, ⟨25, _⟩ => ⟨S2x256x1, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S2x4, .f32⟩
  | .hbm, ⟨41, _⟩ => ⟨S64, .i32⟩
  | .hbm, ⟨42, _⟩ => ⟨S64x1, .i32⟩
  | .hbm, ⟨43, _⟩ => ⟨S_, .i32⟩
  | .hbm, ⟨44, _⟩ => ⟨S64x1, .i32⟩
  | .hbm, ⟨45, _⟩ => ⟨S64x1, .i32⟩
  | .hbm, ⟨46, _⟩ => ⟨S192, .i32⟩
  | .hbm, ⟨47, _⟩ => ⟨S1x192, .i32⟩
  | .hbm, ⟨48, _⟩ => ⟨S64x192, .i32⟩
  | .hbm, ⟨49, _⟩ => ⟨S64x192, .i32⟩
  | .hbm, ⟨50, _⟩ => ⟨S64x192, .i32⟩
  | .hbm, ⟨51, _⟩ => ⟨S64x192, .i32⟩
  | .hbm, ⟨52, _⟩ => ⟨S64x192, .f32⟩
  | .hbm, ⟨53, _⟩ => ⟨S2x4x1x1, .f32⟩
  | .hbm, ⟨54, _⟩ => ⟨S2x4x1x1, .f32⟩
  | .hbm, ⟨55, _⟩ => ⟨S1x1x64x192, .f32⟩
  | .hbm, ⟨56, _⟩ => ⟨S2x4x64x192, .f32⟩
  | .hbm, ⟨57, _⟩ => ⟨S2x4x64x192, .f32⟩
  | .hbm, ⟨58, _⟩ => ⟨S2x4x64x192, .f32⟩
  | .hbm, ⟨59, _⟩ => ⟨S2x256x192, .f32⟩
  | .hbm, ⟨60, _⟩ => ⟨S4x128x128, .f32⟩
  | .hbm, ⟨61, _⟩ => ⟨S4x128, .f32⟩
  | .hbm, ⟨62, _⟩ => ⟨S128x4, .f32⟩
  | .hbm, ⟨63, _⟩ => ⟨S512, .f32⟩
  | .hbm, ⟨64, _⟩ => ⟨S1x512, .f32⟩
  | .hbm, ⟨65, _⟩ => ⟨S512, .f32⟩
  | .hbm, ⟨66, _⟩ => ⟨S1x512, .f32⟩
  | .hbm, ⟨67, _⟩ => ⟨S1024x1024, .f32⟩
  | .hbm, ⟨68, _⟩ => ⟨S1024x1024, .bf16⟩
  | .hbm, ⟨69, _⟩ => ⟨S1024, .f32⟩
  | .hbm, ⟨70, _⟩ => ⟨S1x1024, .f32⟩
  | .hbm, ⟨71, _⟩ => ⟨S1024x32, .f32⟩
  | .hbm, ⟨72, _⟩ => ⟨S32x1024, .f32⟩
  | .hbm, ⟨73, _⟩ => ⟨S32, .f32⟩
  | .hbm, ⟨74, _⟩ => ⟨S32x1, .f32⟩
  | .hbm, ⟨75, _⟩ => ⟨S16384x1024, .f32⟩
  | .hbm, ⟨76, _⟩ => ⟨S512x1024, .f32⟩
  | .hbm, ⟨77, _⟩ => ⟨S8x128x2x64, .f32⟩
  | .hbm, ⟨78, _⟩ => ⟨S8x128x128, .f32⟩
  | .hbm, ⟨79, _⟩ => ⟨S8x128x2x64, .f32⟩
  | .hbm, ⟨80, _⟩ => ⟨S8x128x128, .f32⟩
  | .hbm, ⟨81, _⟩ => ⟨S16896x1024, .f32⟩
  | .hbm, ⟨82, _⟩ => ⟨S16896x1024, .f32⟩
  | .hbm, ⟨83, _⟩ => ⟨S4x16896, .i32⟩
  | .hbm, ⟨84, _⟩ => ⟨S4x16896, .i32⟩
  | .hbm, ⟨85, _⟩ => ⟨S4x16896, .f32⟩
  | .hbm, ⟨86, _⟩ => ⟨S32x1, .i32⟩
  | .hbm, ⟨87, _⟩ => ⟨S2x128x128, .f32⟩
  | .hbm, ⟨88, _⟩ => ⟨S2x128x128, .f32⟩
  | .hbm, ⟨89, _⟩ => ⟨S8x128x128, .f32⟩
  | .hbm, ⟨90, _⟩ => ⟨S8x128x128, .f32⟩
  | .hbm, ⟨91, _⟩ => ⟨S512x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S8x128x128, .f32⟩
  | .local _ .vmem, ⟨4, _⟩ => ⟨S8x128x128, .f32⟩
  | .local _ .vmem, ⟨5, _⟩ => ⟨S1x1024, .f32⟩
  | .local _ .vmem, ⟨6, _⟩ => ⟨S1024x1792, .bf16⟩
  | .local _ .vmem, ⟨7, _⟩ => ⟨S1x512, .f32⟩
  | .local _ .vmem, ⟨8, _⟩ => ⟨S2x256x1, .f32⟩
  | .local _ .vmem, ⟨9, _⟩ => ⟨S2x256x192, .f32⟩
  | .local _ .vmem, ⟨10, _⟩ => ⟨S4x128x128, .f32⟩
  | .local _ .vmem, ⟨11, _⟩ => ⟨S128x4, .f32⟩
  | .local _ .vmem, ⟨12, _⟩ => ⟨S1x512, .f32⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S32x1024, .f32⟩
  | .local _ .vmem, ⟨17, _⟩ => ⟨S32x1, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S4x512, .i32⟩
  | .local _ .vmem, ⟨23, _⟩ => ⟨S4x512, .i32⟩
  | .local _ .vmem, ⟨24, _⟩ => ⟨S4x512, .i32⟩
  | .local _ .vmem, ⟨25, _⟩ => ⟨S4x512, .i32⟩
  | .local _ .vmem, ⟨26, _⟩ => ⟨S4x512, .f32⟩
  | .local _ .vmem, ⟨27, _⟩ => ⟨S4x512, .f32⟩
  | .local _ .vmem, ⟨28, _⟩ => ⟨S32x1, .i32⟩
  | .local _ .vmem, ⟨29, _⟩ => ⟨S1x128x128, .f32⟩
  | .local _ .vmem, ⟨30, _⟩ => ⟨S1x128x128, .f32⟩
  | .local _ .vmem, ⟨31, _⟩ => ⟨S1x128x128, .f32⟩
  | .local _ .vmem, ⟨32, _⟩ => ⟨S1x128x128, .f32⟩
  | .local _ .vmem, ⟨33, _⟩ => ⟨S8x128x128, .f32⟩
  | .local _ .vmem, ⟨34, _⟩ => ⟨S8x128x128, .f32⟩
  | .local _ .vmem, ⟨35, _⟩ => ⟨S512x512, .f32⟩
  | .local _ .vmem, ⟨36, _⟩ => ⟨S640x128, .bf16⟩
  | .local _ .vmem, ⟨37, _⟩ => ⟨S640x128, .bf16⟩
  | .local _ .vmem, ⟨38, _⟩ => ⟨S640x128, .bf16⟩
  | .local _ .vmem, ⟨39, _⟩ => ⟨S640x128, .bf16⟩
  | .local _ .vmem, ⟨40, _⟩ => ⟨S32x1, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60_0 : Ref sig .tc := ⟨.hbm, 81, rfl⟩
abbrev main_v60_1 : Ref sig .tc := ⟨.hbm, 82, rfl⟩
abbrev main_v60_2 : Ref sig .tc := ⟨.hbm, 83, rfl⟩
abbrev main_v60_3 : Ref sig .tc := ⟨.hbm, 84, rfl⟩
abbrev main_v60_4 : Ref sig .tc := ⟨.hbm, 85, rfl⟩
abbrev main_v60_5 : Ref sig .tc := ⟨.hbm, 86, rfl⟩
abbrev main_v60_6 : Ref sig .tc := ⟨.hbm, 87, rfl⟩
abbrev main_v60_7 : Ref sig .tc := ⟨.hbm, 88, rfl⟩
abbrev main_v60_8 : Ref sig .tc := ⟨.hbm, 89, rfl⟩
abbrev main_v60_9 : Ref sig .tc := ⟨.hbm, 90, rfl⟩
abbrev main_v60_10 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg23_1 : Ref sig .tc := ⟨.vmem, 30, rfl⟩
abbrev cc0_stg24_0 : Ref sig .tc := ⟨.vmem, 31, rfl⟩
abbrev cc0_stg24_1 : Ref sig .tc := ⟨.vmem, 32, rfl⟩
abbrev cc0_stg25_0 : Ref sig .tc := ⟨.vmem, 33, rfl⟩
abbrev cc0_stg26_0 : Ref sig .tc := ⟨.vmem, 34, rfl⟩
abbrev cc0_stg27_0 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem23_0 : DmaSem sig := 29
abbrev cc0_sem23_1 : DmaSem sig := 30
abbrev cc0_sem24_0 : DmaSem sig := 31
abbrev cc0_sem24_1 : DmaSem sig := 32
abbrev cc0_sem25_0 : DmaSem sig := 33
abbrev cc0_sem26_0 : DmaSem sig := 34
abbrev cc0_sem27_0 : DmaSem sig := 35

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v13 : BitVec 1 := Scalar.cmpi .slt arg0 c32_i32
  let v14 : BitVec 32 := Scalar.extui v13
  let c0_i32_5 : BitVec 32 := 0#32
  let v15 : BitVec 1 := Scalar.cmpi .ne v14 c0_i32_5
  v15

def k0_cond5 (i : grid0.Coords) : BitVec 1 :=
  let arg0 : BitVec 32 := BitVec.ofNat 32 (i 0).val
  let c32_i32_6 : BitVec 32 := 32#32
  let v16 : BitVec 1 := Scalar.cmpi .eq arg0 c32_i32_6
  let v17 : BitVec 32 := Scalar.extui v16
  let c0_i32_7 : BitVec 32 := 0#32
  let v18 : BitVec 1 := Scalar.cmpi .ne v17 c0_i32_7
  v18

def k0_cond4 (i : grid0.Coords) : BitVec 1 :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c15_i32 : BitVec 32 := 15#32
  let v127 : BitVec 1 := Scalar.cmpi .eq v9 c15_i32
  let v128 : BitVec 32 := Scalar.extui v127
  let c0_i32_43 : BitVec 32 := 0#32
  let v129 : BitVec 1 := Scalar.cmpi .ne v128 c0_i32_43
  v129

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_24 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1792 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x256x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x512 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S4x512 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S4x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S32x1 .i32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1x128x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x128x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S8x128x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S8x128x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S512x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== Reference2Ideal.lean ====
abbrev S2x8192x1024 : Shape := ⟨3, ![2, 8192, 1024]⟩
abbrev S8x64x1024 : Shape := ⟨3, ![8, 64, 1024]⟩
abbrev S1x8x128x2x64 : Shape := ⟨5, ![1, 8, 128, 2, 64]⟩
abbrev S1x1024 : Shape := ⟨2, ![1, 1024]⟩
abbrev S1x1024x1792 : Shape := ⟨3, ![1, 1024, 1792]⟩
abbrev S1x4x128 : Shape := ⟨3, ![1, 4, 128]⟩
abbrev S1x8 : Shape := ⟨2, ![1, 8]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024x32 : Shape := ⟨3, ![1, 1024, 32]⟩
abbrev S1x32 : Shape := ⟨2, ![1, 32]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x1792 : Shape := ⟨2, ![1024, 1792]⟩
abbrev S2x8192x1792 : Shape := ⟨3, ![2, 8192, 1792]⟩
abbrev S8x64 : Shape := ⟨2, ![8, 64]⟩
abbrev S8x64x1 : Shape := ⟨3, ![8, 64, 1]⟩
abbrev S8x64x1792 : Shape := ⟨3, ![8, 64, 1792]⟩
abbrev S8x64x512 : Shape := ⟨3, ![8, 64, 512]⟩
abbrev S8x64x4x128 : Shape := ⟨4, ![8, 64, 4, 128]⟩
abbrev S4x128 : Shape := ⟨2, ![4, 128]⟩
abbrev S8x64x4 : Shape := ⟨3, ![8, 64, 4]⟩
abbrev S8x64x4x1 : Shape := ⟨4, ![8, 64, 4, 1]⟩
abbrev S1x1x4x128 : Shape := ⟨4, ![1, 1, 4, 128]⟩
abbrev S8x128x2x64 : Shape := ⟨4, ![8, 128, 2, 64]⟩
abbrev S8x128x128 : Shape := ⟨3, ![8, 128, 128]⟩
abbrev S8x64x128 : Shape := ⟨3, ![8, 64, 128]⟩
abbrev S8x192x128 : Shape := ⟨3, ![8, 192, 128]⟩
abbrev S2x128x128 : Shape := ⟨3, ![2, 128, 128]⟩
abbrev S512x512 : Shape := ⟨2, ![512, 512]⟩

abbrev nBuf : Space → Nat
  | .hbm => 97
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8x64x1024, .f32⟩
  | .hbm, ⟨2, _⟩ => ⟨S1x8x128x2x64, .f32⟩
  | .hbm, ⟨3, _⟩ => ⟨S1x8x128x2x64, .f32⟩
  | .hbm, ⟨4, _⟩ => ⟨S1x1024, .f32⟩
  | .hbm, ⟨5, _⟩ => ⟨S1x1024x1792, .f32⟩
  | .hbm, ⟨6, _⟩ => ⟨S1x4x128, .f32⟩
  | .hbm, ⟨7, _⟩ => ⟨S1x8, .f32⟩
  | .hbm, ⟨8, _⟩ => ⟨S1x4x128x128, .f32⟩
  | .hbm, ⟨9, _⟩ => ⟨S1x4x128, .f32⟩
  | .hbm, ⟨10, _⟩ => ⟨S1x512, .f32⟩
  | .hbm, ⟨11, _⟩ => ⟨S1x512, .f32⟩
  | .hbm, ⟨12, _⟩ => ⟨S1x1024x1024, .f32⟩
  | .hbm, ⟨13, _⟩ => ⟨S1x1024, .f32⟩
  | .hbm, ⟨14, _⟩ => ⟨S1x1024x32, .f32⟩
  | .hbm, ⟨15, _⟩ => ⟨S1x32, .f32⟩
  | .hbm, ⟨16, _⟩ => ⟨S1024, .f32⟩
  | .hbm, ⟨17, _⟩ => ⟨S2x8192x1024, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x1, .f32⟩
  | .hbm, ⟨28, _⟩ => ⟨S2x8192x1024, .f32⟩
  | .hbm, ⟨29, _⟩ => ⟨S2x8192x1024, .f32⟩
  | .hbm, ⟨30, _⟩ => ⟨S1x1x1024, .f32⟩
  | .hbm, ⟨31, _⟩ => ⟨S2x8192x1024, .f32⟩
  | .hbm, ⟨32, _⟩ => ⟨S2x8192x1024, .f32⟩
  | .hbm, ⟨33, _⟩ => ⟨S1024x1792, .f32⟩
  | .hbm, ⟨34, _⟩ => ⟨S2x8192x1792, .f32⟩
  | .hbm, ⟨35, _⟩ => ⟨S1024, .f32⟩
  | .hbm, ⟨36, _⟩ => ⟨S8x64x1024, .f32⟩
  | .hbm, ⟨37, _⟩ => ⟨S_, .f32⟩
  | .hbm, ⟨38, _⟩ => ⟨S8x64, .f32⟩
  | .hbm, ⟨39, _⟩ => ⟨S8x64x1, .f32⟩
  | .hbm, ⟨40, _⟩ => ⟨S_, .f32⟩
  | .hbm, ⟨41, _⟩ => ⟨S8x64x1, .f32⟩
  | .hbm, ⟨42, _⟩ => ⟨S8x64x1, .f32⟩
  | .hbm, ⟨43, _⟩ => ⟨S_, .f32⟩
  | .hbm, ⟨44, _⟩ => ⟨S8x64x1, .f32⟩
  | .hbm, ⟨45, _⟩ => ⟨S8x64x1, .f32⟩
  | .hbm, ⟨46, _⟩ => ⟨S8x64x1, .f32⟩
  | .hbm, ⟨47, _⟩ => ⟨S8x64x1024, .f32⟩
  | .hbm, ⟨48, _⟩ => ⟨S8x64x1024, .f32⟩
  | .hbm, ⟨49, _⟩ => ⟨S1x1x1024, .f32⟩
  | .hbm, ⟨50, _⟩ => ⟨S8x64x1024, .f32⟩
  | .hbm, ⟨51, _⟩ => ⟨S8x64x1024, .f32⟩
  | .hbm, ⟨52, _⟩ => ⟨S1024x1792, .f32⟩
  | .hbm, ⟨53, _⟩ => ⟨S8x64x1792, .f32⟩
  | .hbm, ⟨54, _⟩ => ⟨S8x64x512, .f32⟩
  | .hbm, ⟨55, _⟩ => ⟨S_, .f32⟩
  | .hbm, ⟨56, _⟩ => ⟨S8x64x512, .f32⟩
  | .hbm, ⟨57, _⟩ => ⟨S8x64x512, .f32⟩
  | .hbm, ⟨58, _⟩ => ⟨S_, .f32⟩
  | .hbm, ⟨59, _⟩ => ⟨S8x64x512, .f32⟩
  | .hbm, ⟨60, _⟩ => ⟨S8x64x512, .f32⟩
  | .hbm, ⟨61, _⟩ => ⟨S8x64x512, .f32⟩
  | .hbm, ⟨62, _⟩ => ⟨S_, .f32⟩
  | .hbm, ⟨63, _⟩ => ⟨S8x64x512, .f32⟩
  | .hbm, ⟨64, _⟩ => ⟨S8x64x512, .f32⟩
  | .hbm, ⟨65, _⟩ => ⟨S8x64x512, .f32⟩
  | .hbm, ⟨66, _⟩ => ⟨S8x64x4x128, .f32⟩
  | .hbm, ⟨67, _⟩ => ⟨S4x128, .f32⟩
  | .hbm, ⟨68, _⟩ => ⟨S8x64x4x128, .f32⟩
  | .hbm, ⟨69, _⟩ => ⟨S_, .f32⟩
  | .hbm, ⟨70, _⟩ => ⟨S8x64x4, .f32⟩
  | .hbm, ⟨71, _⟩ => ⟨S8x64x4x1, .f32⟩
  | .hbm, ⟨72, _⟩ => ⟨S_, .f32⟩
  | .hbm, ⟨73, _⟩ => ⟨S8x64x4x1, .f32⟩
  | .hbm, ⟨74, _⟩ => ⟨S8x64x4x1, .f32⟩
  | .hbm, ⟨75, _⟩ => ⟨S_, .f32⟩
  | .hbm, ⟨76, _⟩ => ⟨S8x64x4x1, .f32⟩
  | .hbm, ⟨77, _⟩ => ⟨S8x64x4x1, .f32⟩
  | .hbm, ⟨78, _⟩ => ⟨S8x64x4x1, .f32⟩
  | .hbm, ⟨79, _⟩ => ⟨S8x64x4x128, .f32⟩
  | .hbm, ⟨80, _⟩ => ⟨S8x64x4x128, .f32⟩
  | .hbm, ⟨81, _⟩ => ⟨S1x1x4x128, .f32⟩
  | .hbm, ⟨82, _⟩ => ⟨S8x64x4x128, .f32⟩
  | .hbm, ⟨83, _⟩ => ⟨S8x64x4x128, .f32⟩
  | .hbm, ⟨84, _⟩ => ⟨S8x128x2x64, .f32⟩
  | .hbm, ⟨85, _⟩ => ⟨S8x128x128, .f32⟩
  | .hbm, ⟨86, _⟩ => ⟨S8x64x128, .f32⟩
  | .hbm, ⟨87, _⟩ => ⟨S8x192x128, .f32⟩
  | .hbm, ⟨88, _⟩ => ⟨S8x128x2x64, .f32⟩
  | .hbm, ⟨89, _⟩ => ⟨S8x128x128, .f32⟩
  | .hbm, ⟨90, _⟩ => ⟨S8x64x128, .f32⟩
  | .hbm, ⟨91, _⟩ => ⟨S8x192x128, .f32⟩
  | .hbm, ⟨92, _⟩ => ⟨S2x128x128, .f32⟩
  | .hbm, ⟨93, _⟩ => ⟨S2x128x128, .f32⟩
  | .hbm, ⟨94, _⟩ => ⟨S8x128x128, .f32⟩
  | .hbm, ⟨95, _⟩ => ⟨S8x128x128, .f32⟩
  | .hbm, ⟨96, _⟩ => ⟨S512x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== Proof.ExpertsIdeal.Scratch.lean ====
module

public import proofs.«01_k».proof.Proof.Gen.KernelIdeal.Flash.Runs
public import Idealize.ShloMosaic.Lib.Pipeline.FrameBody
public import Idealize.ShloMosaic.Lib.Pipeline.Value
public import Idealize.ShloMosaic.Lib.ValueIdxCore
public import Idealize.ShloMosaic.Lib.Writes

/-! What a point leaves behind: the two scratch buffers hold the expert's weights narrowed, the output block is the
    expert's layer of the block of rows (a point in use) or zero (a point not in use). -/

set_option maxRecDepth 16384
set_option Elab.async false

@[expose] public noncomputable section

namespace Cert.KernelIdeal.Experts

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The first product's weights of a block `x`, narrowed. -/
def castUp (x : S1x1024x2048.Idx → Elt Ideal .f32) : S1024x2048.Idx → Elt Ideal .bf16 :=
  fun y => FloatOps.truncf (F := Ideal) (φ := .f32) .bf16 bitsLt_bf16_f32 (x (ix3 (0 : Fin 1) (y 0) (y 1)))
/-- The second product's weights of a block `x`, narrowed. -/
def castDown (x : S1x1024x1024.Idx → Elt Ideal .f32) : S1024x1024.Idx → Elt Ideal .bf16 :=
  fun y => FloatOps.truncf (F := Ideal) (φ := .f32) .bf16 bitsLt_bf16_f32 (x (ix3 (0 : Fin 1) (y 0) (y 1)))

/-- A stored piece of 128 rows of the first product's weights is that part of them. -/
theorem piece_up (v : Memref sig .tc .vmem S1x1024x2048 .f32) (x : S1x1024x2048.Idx → Elt Ideal .f32) (o : ℕ)
    (h : ∀ a, (![0, o, 0] : Fin 3 → ℕ) a + S1x128x2048.size a ≤ S1x1024x2048.size a)
    (h' : ∀ a, (![o, 0] : Fin 2 → ℕ) a + S128x2048.size a ≤ S1024x2048.size a)
    (j : (Rect.unit (s := S1024x2048) ![o, 0] S128x2048.size h').shape.Idx) :
    k0_pay3 (F := Ideal) (View.readAt (Elt Ideal) v.view (Rect.unit (s := S1x1024x2048) ![0, o, 0] S1x128x2048.size h).toLoadRect (v.view.rep x)) j
      = castUp x ((Rect.unit (s := S1024x2048) ![o, 0] S128x2048.size h').emb j) := by
  unfold k0_pay3 castUp
  rw [shapeCast_apply _ shapeCasts_S128x2048_S128x2048 j j rfl]
  show FloatOps.truncf .bf16 _ (shapeCast S128x2048 _ shapeCasts_S1x128x2048_S128x2048 j) = _
  rw [shapeCast_apply _ shapeCasts_S1x128x2048_S128x2048 j (ix3 (0 : Fin 1) (j 0) (j 1))
    (by rw [Shape.rowMajor_val_three, Shape.rowMajor_val_two]; simp [ix3]), View.readAt_apply, View.read_rep]
  congr 1
  refine congrArg x (funext fun a => Fin.ext ?_)
  fin_cases a <;> rfl

/-- A stored piece of 128 rows of the second product's weights is that part of them. -/
theorem piece_down (v : Memref sig .tc .vmem S1x1024x1024 .f32) (x : S1x1024x1024.Idx → Elt Ideal .f32) (o : ℕ)
    (h : ∀ a, (![0, o, 0] : Fin 3 → ℕ) a + S1x128x1024.size a ≤ S1x1024x1024.size a)
    (h' : ∀ a, (![o, 0] : Fin 2 → ℕ) a + S128x1024.size a ≤ S1024x1024.size a)
    (j : (Rect.unit (s := S1024x1024) ![o, 0] S128x1024.size h').shape.Idx) :
    k0_pay4 (F := Ideal) (View.readAt (Elt Ideal) v.view (Rect.unit (s := S1x1024x1024) ![0, o, 0] S1x128x1024.size h).toLoadRect (v.view.rep x)) j
      = castDown x ((Rect.unit (s := S1024x1024) ![o, 0] S128x1024.size h').emb j) := by
  unfold k0_pay4 castDown
  rw [shapeCast_apply _ shapeCasts_S128x1024_S128x1024 j j rfl]
  show FloatOps.truncf .bf16 _ (shapeCast S128x1024 _ shapeCasts_S1x128x1024_S128x1024 j) = _
  rw [shapeCast_apply _ shapeCasts_S1x128x1024_S128x1024 j (ix3 (0 : Fin 1) (j 0) (j 1))
    (by rw [Shape.rowMajor_val_three, Shape.rowMajor_val_two]; simp [ix3]), View.readAt_apply, View.read_rep]
  congr 1
  refine congrArg x (funext fun a => Fin.ext ?_)
  fin_cases a <;> rfl

/-- The eight pieces agree with the narrowed weights. -/
theorem pieces_up (v : Memref sig .tc .vmem S1x1024x2048 .f32) (x : S1x1024x2048.Idx → Elt Ideal .f32) :
    ∀ p ∈ kernelRun0_A.sl.HS0_8 v x, ∀ j : p.1.shape.Idx, p.2 j = castUp x (p.1.emb j) := by
  unfold kernelRun0_A.sl.HS0_8
  intro p hp
  simp only [List.mem_cons, List.not_mem_nil, or_false] at hp
  rcases hp with rfl | rfl | rfl | rfl | rfl | rfl | rfl | rfl <;> exact fun j => piece_up v x _ _ (by intro a; fin_cases a <;> decide) j

theorem pieces_down (v : Memref sig .tc .vmem S1x1024x1024 .f32) (x : S1x1024x1024.Idx → Elt Ideal .f32) :
    ∀ p ∈ kernelRun0_A.sl.HS1_8 v x, ∀ j : p.1.shape.Idx, p.2 j = castDown x (p.1.emb j) := by
  unfold kernelRun0_A.sl.HS1_8
  intro p hp
  simp only [List.mem_cons, List.not_mem_nil, or_false] at hp
  rcases hp with rfl | rfl | rfl | rfl | rfl | rfl | rfl | rfl <;> exact fun j => piece_down v x _ _ (by intro a; fin_cases a <;> decide) j

/-- Each row is in one of eight pieces of 128 rows. -/
theorem mem_rows {n : ℕ} (o : ℕ) (y : (⟨2, ![1024, n]⟩ : Shape).Idx)
    (h : ∀ a, (![o, 0] : Fin 2 → ℕ) a + (![128, n] : Fin 2 → ℕ) a ≤ (⟨2, ![1024, n]⟩ : Shape).size a)
    (h1 : o ≤ (y 0).val) (h2 : (y 0).val < o + 128) :
    y ∈ (Rect.unit (s := ⟨2, ![1024, n]⟩) ![o, 0] ![128, n] h).set := by
  rw [Rect.mem_set_unit]
  intro a
  have := (y 1).isLt
  fin_cases a
  · exact ⟨h1, h2⟩
  · exact ⟨Nat.zero_le _, by simpa using this⟩

theorem cover_up (v : Memref sig .tc .vmem S1x1024x2048 .f32) (x : S1x1024x2048.Idx → Elt Ideal .f32) (y : S1024x2048.Idx) :
    ∃ p ∈ kernelRun0_A.sl.HS0_8 v x, y ∈ p.1.set := by
  unfold kernelRun0_A.sl.HS0_8
  have hy : (y 0).val < 1024 := (y 0).isLt
  simp only [List.exists_mem_cons_iff, List.not_mem_nil, false_and, exists_false, or_false]
  rcases (show (896 ≤ (y 0).val ∧ (y 0).val < 896 + 128) ∨ (768 ≤ (y 0).val ∧ (y 0).val < 768 + 128) ∨ (640 ≤ (y 0).val ∧ (y 0).val < 640 + 128)
      ∨ (512 ≤ (y 0).val ∧ (y 0).val < 512 + 128) ∨ (384 ≤ (y 0).val ∧ (y 0).val < 384 + 128) ∨ (256 ≤ (y 0).val ∧ (y 0).val < 256 + 128)
      ∨ (128 ≤ (y 0).val ∧ (y 0).val < 128 + 128) ∨ (0 ≤ (y 0).val ∧ (y 0).val < 0 + 128) by omega)
    with h | h | h | h | h | h | h | h
  · exact .inl (mem_rows _ y _ h.1 h.2)
  · exact .inr (.inl (mem_rows _ y _ h.1 h.2))
  · exact .inr (.inr (.inl (mem_rows _ y _ h.1 h.2)))
  · exact .inr (.inr (.inr (.inl (mem_rows _ y _ h.1 h.2))))
  · exact .inr (.inr (.inr (.inr (.inl (mem_rows _ y _ h.1 h.2)))))
  · exact .inr (.inr (.inr (.inr (.inr (.inl (mem_rows _ y _ h.1 h.2))))))
  · exact .inr (.inr (.inr (.inr (.inr (.inr (.inl (mem_rows _ y _ h.1 h.2)))))))
  · exact .inr (.inr (.inr (.inr (.inr (.inr (.inr (mem_rows _ y _ h.1 h.2)))))))

theorem cover_down (v : Memref sig .tc .vmem S1x1024x1024 .f32) (x : S1x1024x1024.Idx → Elt Ideal .f32) (y : S1024x1024.Idx) :
    ∃ p ∈ kernelRun0_A.sl.HS1_8 v x, y ∈ p.1.set := by
  unfold kernelRun0_A.sl.HS1_8
  have hy : (y 0).val < 1024 := (y 0).isLt
  simp only [List.exists_mem_cons_iff, List.not_mem_nil, false_and, exists_false, or_false]
  rcases (show (896 ≤ (y 0).val ∧ (y 0).val < 896 + 128) ∨ (768 ≤ (y 0).val ∧ (y 0).val < 768 + 128) ∨ (640 ≤ (y 0).val ∧ (y 0).val < 640 + 128)
      ∨ (512 ≤ (y 0).val ∧ (y 0).val < 512 + 128) ∨ (384 ≤ (y 0).val ∧ (y 0).val < 384 + 128) ∨ (256 ≤ (y 0).val ∧ (y 0).val < 256 + 128)
      ∨ (128 ≤ (y 0).val ∧ (y 0).val < 128 + 128) ∨ (0 ≤ (y 0).val ∧ (y 0).val < 0 + 128) by omega)
    with h | h | h | h | h | h | h | h
  · exact .inl (mem_rows _ y _ h.1 h.2)
  · exact .inr (.inl (mem_rows _ y _ h.1 h.2))
  · exact .inr (.inr (.inl (mem_rows _ y _ h.1 h.2)))
  · exact .inr (.inr (.inr (.inl (mem_rows _ y _ h.1 h.2))))
  · exact .inr (.inr (.inr (.inr (.inl (mem_rows _ y _ h.1 h.2)))))
  · exact .inr (.inr (.inr (.inr (.inr (.inl (mem_rows _ y _ h.1 h.2))))))
  · exact .inr (.inr (.inr (.inr (.inr (.inr (.inl (mem_rows _ y _ h.1 h.2)))))))
  · exact .inr (.inr (.inr (.inr (.inr (.inr (.inr (mem_rows _ y _ h.1 h.2)))))))

/-- After the eight stores the scratch buffers hold the narrowed weights. -/
theorem scratch_up (w : View sig .tc .vmem S1024x2048 .bf16) (v : Memref sig .tc .vmem S1x1024x2048 .f32) (x : S1x1024x2048.Idx → Elt Ideal .f32) (f) :
    w.read (Elt Ideal) (w.writes (Elt Ideal) f (kernelRun0_A.sl.HS0_8 v x)) = castUp x :=
  funext fun y => View.read_writes_apply_of_pieces w f (castUp x) _ (pieces_up v x) y (cover_up v x y)
theorem scratch_down (w : View sig .tc .vmem S1024x1024 .bf16) (v : Memref sig .tc .vmem S1x1024x1024 .f32) (x : S1x1024x1024.Idx → Elt Ideal .f32) (f) :
    w.read (Elt Ideal) (w.writes (Elt Ideal) f (kernelRun0_A.sl.HS1_8 v x)) = castDown x :=
  funext fun y => View.read_writes_apply_of_pieces w f (castDown x) _ (pieces_down v x) y (cover_down v x y)

/-- A load of a whole view reads what the view reads. -/
theorem readAt_full {s : Shape} {e : EltTy} {sp : Space} (v : View sig .tc sp s e) (f) (o : Fin s.rank → ℕ) (ho : o = fun _ => 0)
    (h : ∀ a, o a + s.size a ≤ s.size a) :
    View.readAt (Elt Ideal) v (Rect.unit o s.size h).toLoadRect f = v.read (Elt Ideal) f := by
  subst ho
  funext y
  rw [View.readAt_apply]
  refine congrArg _ (funext fun a => Fin.ext ?_)
  simp [LoadRect.idx, Rect.toLoadRect]

/-- The block of a point in use: the layer of the rows `x0` under the narrowed weights `w1`, `w2` and the biases `x2`, `x4`. -/
def layer (x0 : S256x1024.Idx → Elt Ideal .f32) (w1 : S1024x2048.Idx → Elt Ideal .bf16) (x2 : S1x1x2048.Idx → Elt Ideal .f32)
    (w2 : S1024x1024.Idx → Elt Ideal .bf16) (x4 : S1x1x1024.Idx → Elt Ideal .f32) : S256x1024.Idx → Elt Ideal .f32 :=
  k0_pay1 (F := Ideal) (k0_pay5 (F := Ideal) x0 w1 x2) w2 x4

/-- One piece that is the whole block reads as its payload. -/
theorem read_one (v : View sig .tc .vmem S256x1024 .f32) (f) (h) (w : S256x1024.Idx → Elt Ideal .f32) :
    v.read (Elt Ideal) (v.writes (Elt Ideal) f [⟨Rect.unit (s := S256x1024) ![0, 0] S256x1024.size h, w⟩]) = w := by
  funext y
  have hy : (Rect.unit (s := S256x1024) ![0, 0] S256x1024.size h).emb y = y := by
    refine funext fun a => Fin.ext ?_
    show (![0, 0] : Fin 2 → ℕ) a + 1 * (y a).val = (y a).val
    have h0 : (![0, 0] : Fin 2 → ℕ) a = 0 := by fin_cases a <;> rfl
    omega
  have := View.read_writes_cons_emb (Val := Elt Ideal) v f (Rect.unit (s := S256x1024) ![0, 0] S256x1024.size h) w [] y
  rw [hy] at this
  exact this

end Cert.KernelIdeal.Experts

end
-- ==== Proof.ExpertsIdeal.Point.lean ====
module

public import proofs.«01_k».proof.Proof.Gen.KernelIdeal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.WordCmp

/-! The experts' grid at ANY admissible tables: a point's coordinates, staging buffers and blocks, the two conditions
    its body branches on, and the schedule of the output window. -/

set_option maxRecDepth 16384
set_option Elab.async false

@[expose] public noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (a : (pcfg0 (F := Ideal)).Adm)

/-- The pipeline at the tables `a`. -/
abbrev cfgT : Pipeline.Cfg sig Λ₀ := cfg0 (F := Ideal) a
abbrev pcsT : Fin 1 → Pipeline.Cfg sig Λ₀ := Pipeline.pin (pcfgs (F := Ideal)) fun _ => a
/-- The table of experts, one word for each row block. -/
abbrev tabE : S296.Idx → Elt Ideal .i32 := a.1 0
/-- The number of row blocks in use. -/
abbrev tabN : S1.Idx → Elt Ideal .i32 := a.1 1

/-- Point `t`'s coordinates. -/
abbrev crd (t : Fin (cfgT a).N) : (cfgT a).grid.Coords := (cfgT a).grid.coords t

abbrev st0 (t : Fin (cfgT a).N) : Memref sig .tc .vmem S256x1024 .f32 := spec0_0.stage ((cfgT a).slots t (0 : Fin 6))
abbrev wh0 (t : Fin (cfgT a).N) : (st0 a t).IsWhole := hstage0_0 (((cfgT a).slots t (0 : Fin 6)).cast nbuf0_0)
abbrev st1 (t : Fin (cfgT a).N) : Memref sig .tc .vmem S1x1024x2048 .f32 := spec0_1.stage ((cfgT a).slots t (1 : Fin 6))
abbrev wh1 (t : Fin (cfgT a).N) : (st1 a t).IsWhole := hstage0_1 (((cfgT a).slots t (1 : Fin 6)).cast nbuf0_1)
abbrev st2 (t : Fin (cfgT a).N) : Memref sig .tc .vmem S1x1x2048 .f32 := spec0_2.stage ((cfgT a).slots t (2 : Fin 6))
abbrev wh2 (t : Fin (cfgT a).N) : (st2 a t).IsWhole := hstage0_2 (((cfgT a).slots t (2 : Fin 6)).cast nbuf0_2)
abbrev st3 (t : Fin (cfgT a).N) : Memref sig .tc .vmem S1x1024x1024 .f32 := spec0_3.stage ((cfgT a).slots t (3 : Fin 6))
abbrev wh3 (t : Fin (cfgT a).N) : (st3 a t).IsWhole := hstage0_3 (((cfgT a).slots t (3 : Fin 6)).cast nbuf0_3)
abbrev st4 (t : Fin (cfgT a).N) : Memref sig .tc .vmem S1x1x1024 .f32 := spec0_4.stage ((cfgT a).slots t (4 : Fin 6))
abbrev wh4 (t : Fin (cfgT a).N) : (st4 a t).IsWhole := hstage0_4 (((cfgT a).slots t (4 : Fin 6)).cast nbuf0_4)
abbrev st5 (t : Fin (cfgT a).N) : Memref sig .tc .vmem S256x1024 .f32 := spec0_5.stage ((cfgT a).slots t (5 : Fin 6))
abbrev wh5 (t : Fin (cfgT a).N) : (st5 a t).IsWhole := hstage0_5 (((cfgT a).slots t (5 : Fin 6)).cast nbuf0_5)

/-- The number of blocks in use, as the body reads it. -/
abbrev wordN : Elt Ideal .i32 :=
  View.readAt (Elt Ideal) (tbM0_1).view (Rect.unit (s := S1) ![0] S1.size inb_S1_S1_0).toLoadRect (tabN a) (Shape.Idx.first (numel1_S1.symm ▸ Nat.one_pos))
/-- The expert of the block at `i`, and the expert of the block before it, as the body reads them. -/
abbrev wordE (i : grid0.Coords) : Elt Ideal .i32 :=
  View.readAt (Elt Ideal) (tbM0_0).view (Rect.unit (s := S296) (k0_off3 i) S1.size (k0_off3_inb i)).toLoadRect (tabE a) (Shape.Idx.first (numel1_S1.symm ▸ Nat.one_pos))
abbrev wordP (i : grid0.Coords) : Elt Ideal .i32 :=
  View.readAt (Elt Ideal) (tbM0_0).view (Rect.unit (s := S296) (k0_off2 i) S1.size (k0_off2_inb i)).toLoadRect (tabE a) (Shape.Idx.first (numel1_S1.symm ▸ Nat.one_pos))

/-- The block at `t` is in use. -/
abbrev Used (t : Fin (cfgT a).N) : Prop := k0_cond1 (crd a t) (wordN a) = 1#1
/-- The block at `t` is the first one, or its expert is another one than its predecessor's. -/
abbrev Changed (t : Fin (cfgT a).N) : Prop :=
  (Scalar.cmpi .ne (Scalar.extui (Scalar.ori (Scalar.cmpi .eq (BitVec.ofNat 32 ((crd a t) 0).val) 0#32)
    (Scalar.cmpi .ne (wordE a (crd a t)) (wordP a (crd a t))))) 0#32) = 1#1

/-- A branch word that widens a one-bit word is 1 exactly where that bit is. -/
theorem widened_iff : ∀ b : BitVec 1, Scalar.cmpi .ne (Scalar.extui b : BitVec 32) 0#32 = 1#1 ↔ b = 1#1 := by decide

/-- A block is in use when its number is below the count, as signed words. -/
theorem cond1_iff (i : grid0.Coords) (v : BitVec 32) :
    k0_cond1 i v = 1#1 ↔ (BitVec.ofNat 32 (i 0).val).toInt < v.toInt := by
  unfold k0_cond1
  rw [widened_iff]
  show IntOp.cmpi .slt _ _ = 1#1 ↔ _
  rw [WordCmp.cmpi_slt_eq]
  by_cases h : (BitVec.ofNat 32 (i 0).val).toInt < v.toInt
  · simp [h]
  · simp [h]

/-- The zero branch is taken exactly where the block is not in use. -/
theorem cond3_iff (i : grid0.Coords) (v : BitVec 32) : k0_cond3 i v = 1#1 ↔ ¬ k0_cond1 i v = 1#1 := by
  rw [cond1_iff]
  unfold k0_cond3
  rw [widened_iff]
  show IntOp.cmpi .sge _ _ = 1#1 ↔ _
  rw [WordCmp.cmpi_sge_eq]
  by_cases h : v.toInt ≤ (BitVec.ofNat 32 (i 0).val).toInt
  · simp [h]
  · simp [h]

/-- The output window is stored at each point. -/
theorem idle5 (t : Fin (cfgT a).N) : (cfgT a).idle (5 : Fin 6) ((cfgT a).grid.coords t) = false := by
  show (!(k0_cond1 (crd a t) (a.1.atD 1 ![0]) == 1#1) && !(k0_cond3 (crd a t) (a.1.atD 1 ![0]) == 1#1)) = false
  by_cases h : k0_cond1 (crd a t) (a.1.atD 1 ![0]) = 1#1
  · simp [h]
  · simp [(cond3_iff _ _).mpr h]

/-- The output window is written back at each point: each point has a block of its own. -/
theorem flushOf5 : ∀ t : Fin grid0.N, Window.flushOf grid0 true cc0_transform_5 t = true := by decide +kernel
theorem flush5 (t : Fin (cfgT a).N) : ((cfgT a).win (5 : Fin 6)).flush t = true := flushOf5 t

/-- So its buffer holds nothing of use when a point begins. -/
theorem fresh5 (t : Fin (cfgT a).N) : (cfgT a).fresh (5 : Fin 6) t.val = true :=
  Pipeline.Cfg.fresh_tab (cfgT a) (5 : Fin 6) (fun _ => true) rfl
    (fun t => by rw [flush5 a t, Bool.true_or]) t.val (Nat.le_of_lt t.isLt)

variable (m : (ℓ : Loc nD τ sig) → Buf (Elt Ideal) ℓ) (ρ : Dev nD → PrngReg)

/-- Window `w`'s block at point `t`, read off its array at the start. -/
def iblk (c : Dev nD) (w : Fin (cfgT a).W) (t : Fin (cfgT a).N) : (((cfgT a).win w).xblock (crd a t)).Idx → Elt Ideal ((cfgT a).win w).elt :=
  (((cfgT a).win w).blk t).view.read (Elt Ideal) ((s₀ m ρ).mem (((cfgT a).win w).arr.view.loc (c : Thread nD τ)))

/-- The point's number is its coordinate. -/
theorem crd_val : ∀ t : Fin grid0.N, ((grid0.coords t) 0).val = t.val := by decide +kernel

end Cert.KernelIdeal.Experts

end
-- ==== Proof.ExpertsIdeal.Blocks.lean ====
module

public import proofs.«01_k».proof.Proof.ExpertsIdeal.Point
public import Idealize.ShloMosaic.Lib.ValueIdxCore
public import Idealize.ShloMosaic.Lib.Pipeline.Value

/-! The blocks in closed form: block `t` of the rows is rows 256·t … of its array, and block `t` of the weights and
    biases is the slab of the expert that the table names for `t`. -/

set_option maxRecDepth 16384
set_option Elab.async false

@[expose] public noncomputable section

namespace Cert.KernelIdeal.Experts

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (a : (pcfg0 (F := Ideal)).Adm)

/-- Point `t` as an index of the table. -/
abbrev tix (t : Fin (cfgT a).N) : S296.Idx := ix1 (⟨t.val, Nat.lt_of_lt_of_eq t.isLt N_0⟩ : Fin 296)

theorem off1_val : ∀ t : Fin grid0.N, k0_off1 (grid0.coords t) 0 = t.val := by decide +kernel
theorem off2_val : ∀ t : Fin grid0.N, k0_off2 (grid0.coords t) 0 = t.val - 1 := by decide +kernel
theorem off3_val : ∀ t : Fin grid0.N, k0_off3 (grid0.coords t) 0 = t.val := by decide +kernel
theorem ofNat_toInt : ∀ t : Fin grid0.N, (BitVec.ofNat 32 ((grid0.coords t) 0).val).toInt = t.val := by decide +kernel

/-- A read of one table word at offset `o` is the word there. -/
theorem one_word (T : S296.Idx → Elt Ideal .i32) (o : Fin 1 → ℕ) (h : ∀ a, o a + S1.size a ≤ S296.size a) (k : Fin 296) (hk : o 0 = k.val)
    (h1 : (Rect.unit (s := S296) o S1.size h).shape.numel = 1) :
    T ((Rect.unit (s := S296) o S1.size h).emb (Shape.Idx.first (h1.symm ▸ Nat.one_pos))) = T (ix1 k) := by
  refine congrArg T (funext fun b => Fin.ext ?_)
  fin_cases b
  show o 0 + 1 * (Shape.Idx.first (s := S1) (h1.symm ▸ Nat.one_pos) 0).val = k.val
  have : (Shape.Idx.first (s := S1) (h1.symm ▸ Nat.one_pos) 0).val < 1 := Fin.isLt _
  omega

theorem wordE_eq (t : Fin (cfgT a).N) : wordE a (crd a t) = tabE a (tix a t) :=
  one_word (tabE a) _ (k0_off3_inb (crd a t)) ⟨t.val, Nat.lt_of_lt_of_eq t.isLt N_0⟩ (off3_val t) numel1_S1
theorem wordP_eq (t s : Fin (cfgT a).N) (hs : t.val = s.val + 1) : wordP a (crd a t) = tabE a (tix a s) :=
  one_word (tabE a) _ (k0_off2_inb (crd a t)) ⟨s.val, Nat.lt_of_lt_of_eq s.isLt N_0⟩ ((off2_val t).trans (by rw [hs]; rfl)) numel1_S1

/-- The word the windows' maps read at `t`. -/
theorem at_eq (t : Fin (cfgT a).N) :
    a.1.at 0 (Rect.unit (s := S296) ![(Scalar.indexCast (BitVec.ofNat 32 ((crd a t) 0).val) : Index).toNat] S1.size (k0_off1_inb (crd a t))) numel1_S1
      = tabE a (tix a t) :=
  one_word (tabE a) _ (k0_off1_inb (crd a t)) ⟨t.val, Nat.lt_of_lt_of_eq t.isLt N_0⟩ (off1_val t) numel1_S1

theorem index1 (t : Fin (cfgT a).N) : cc0_transform_1 k0_off1_inb numel1_S1 a.1 (crd a t) 0 = (tabE a (tix a t)).toNat :=
  congrArg BitVec.toNat (at_eq a t)
theorem index2 (t : Fin (cfgT a).N) : cc0_transform_2 k0_off1_inb numel1_S1 a.1 (crd a t) 0 = (tabE a (tix a t)).toNat :=
  congrArg BitVec.toNat (at_eq a t)
theorem index3 (t : Fin (cfgT a).N) : cc0_transform_3 k0_off1_inb numel1_S1 a.1 (crd a t) 0 = (tabE a (tix a t)).toNat :=
  congrArg BitVec.toNat (at_eq a t)
theorem index4 (t : Fin (cfgT a).N) : cc0_transform_4 k0_off1_inb numel1_S1 a.1 (crd a t) 0 = (tabE a (tix a t)).toNat :=
  congrArg BitVec.toNat (at_eq a t)
theorem index0 : ∀ t : Fin grid0.N, cc0_transform_0 (grid0.coords t) 0 = t.val := by decide +kernel
theorem index5 : ∀ t : Fin grid0.N, cc0_transform_5 (grid0.coords t) 0 = t.val := by decide +kernel

/-- The table names an expert: otherwise a weight block would leave its array. -/
theorem expert_lt (t : Fin (cfgT a).N) : (tabE a (tix a t)).toNat < 32 := by
  obtain ⟨h, -⟩ := a.2.1 (crd a t)
  have h0 := h 0
  rw [index1] at h0
  have : ((tabE a (tix a t)).toNat + 1) * 1 ≤ 32 := h0
  omega

/-- The expert of block `t`. -/
def expert (t : Fin (cfgT a).N) : Fin 32 := ⟨(tabE a (tix a t)).toNat, expert_lt a t⟩

variable (m : (ℓ : Loc nD τ sig) → Buf (Elt Ideal) ℓ) (ρ : Dev nD → PrngReg)

theorem rows_lt (t : Fin (cfgT a).N) (y : Fin 256) : t.val * 256 + y.val < 75776 := by
  have h1 := t.isLt
  have h2 : (cfgT a).N = 296 := N_0
  have h3 := y.isLt
  omega

theorem iblk0_apply (c : Dev nD) (t : Fin (cfgT a).N) (y : S256x1024.Idx) :
    iblk a m ρ c (0 : Fin 6) t y = m ((c : Thread nD τ).loc main_arg2) (ix2 ⟨t.val * 256 + (y 0).val, Nat.lt_of_lt_of_le (rows_lt a t (y 0)) (by decide)⟩ (y 1)) := by
  refine congrArg (m ((c : Thread nD τ).loc main_arg2)) (funext fun b => Fin.ext ?_)
  fin_cases b
  · show cc0_transform_0 (crd a t) 0 * 256 + 1 * (y 0).val = t.val * 256 + (y 0).val
    have h := index0 t
    rw [show cc0_transform_0 (crd a t) 0 = t.val from h, Nat.one_mul]
  · show 0 * 1024 + 1 * (y 1).val = (y 1).val
    omega

theorem iblk1_apply (c : Dev nD) (t : Fin (cfgT a).N) (y : S1x1024x2048.Idx) :
    iblk a m ρ c (1 : Fin 6) t y = m ((c : Thread nD τ).loc main_arg3) (ix3 (expert a t) (y 1) (y 2)) := by
  refine congrArg (m ((c : Thread nD τ).loc main_arg3)) (funext fun b => Fin.ext ?_)
  have h0 : (y 0).val < 1 := (y 0).isLt
  fin_cases b
  · show cc0_transform_1 k0_off1_inb numel1_S1 a.1 (crd a t) 0 * 1 + 1 * (y 0).val = (tabE a (tix a t)).toNat
    rw [index1]; omega
  · show 0 * 1024 + 1 * (y 1).val = (y 1).val
    omega
  · show 0 * 2048 + 1 * (y 2).val = (y 2).val
    omega

theorem iblk2_apply (c : Dev nD) (t : Fin (cfgT a).N) (y : S1x1x2048.Idx) :
    iblk a m ρ c (2 : Fin 6) t y = m ((c : Thread nD τ).loc main_arg4) (ix3 (expert a t) (y 1) (y 2)) := by
  refine congrArg (m ((c : Thread nD τ).loc main_arg4)) (funext fun b => Fin.ext ?_)
  have h0 : (y 0).val < 1 := (y 0).isLt
  fin_cases b
  · show cc0_transform_2 k0_off1_inb numel1_S1 a.1 (crd a t) 0 * 1 + 1 * (y 0).val = (tabE a (tix a t)).toNat
    rw [index2]; omega
  · show 0 * 1 + 1 * (y 1).val = (y 1).val
    omega
  · show 0 * 2048 + 1 * (y 2).val = (y 2).val
    omega

theorem iblk3_apply (c : Dev nD) (t : Fin (cfgT a).N) (y : S1x1024x1024.Idx) :
    iblk a m ρ c (3 : Fin 6) t y = m ((c : Thread nD τ).loc main_arg5) (ix3 (expert a t) (y 1) (y 2)) := by
  refine congrArg (m ((c : Thread nD τ).loc main_arg5)) (funext fun b => Fin.ext ?_)
  have h0 : (y 0).val < 1 := (y 0).isLt
  fin_cases b
  · show cc0_transform_3 k0_off1_inb numel1_S1 a.1 (crd a t) 0 * 1 + 1 * (y 0).val = (tabE a (tix a t)).toNat
    rw [index3]; omega
  · show 0 * 1024 + 1 * (y 1).val = (y 1).val
    omega
  · show 0 * 1024 + 1 * (y 2).val = (y 2).val
    omega

theorem iblk4_apply (c : Dev nD) (t : Fin (cfgT a).N) (y : S1x1x1024.Idx) :
    iblk a m ρ c (4 : Fin 6) t y = m ((c : Thread nD τ).loc main_arg6) (ix3 (expert a t) (y 1) (y 2)) := by
  refine congrArg (m ((c : Thread nD τ).loc main_arg6)) (funext fun b => Fin.ext ?_)
  have h0 : (y 0).val < 1 := (y 0).isLt
  fin_cases b
  · show cc0_transform_4 k0_off1_inb numel1_S1 a.1 (crd a t) 0 * 1 + 1 * (y 0).val = (tabE a (tix a t)).toNat
    rw [index4]; omega
  · show 0 * 1 + 1 * (y 1).val = (y 1).val
    omega
  · show 0 * 1024 + 1 * (y 2).val = (y 2).val
    omega

/-- A point in use whose expert has not changed comes after a point in use with the same expert. -/
theorem same_expert (t : Fin (cfgT a).N) (hu : Used a t) (hc : ¬ Changed a t) :
    ∃ s : Fin (cfgT a).N, t.val = s.val + 1 ∧ Used a s ∧ expert a s = expert a t := by
  unfold Changed at hc
  rw [widened_iff] at hc
  have h0 : t.val ≠ 0 := by
    intro h0
    apply hc
    have e : ((crd a t) 0).val = 0 := (crd_val t).trans h0
    rw [e]
    show IntOp.ori (IntOp.cmpi .eq (BitVec.ofNat 32 0) 0#32) (IntOp.cmpi .ne _ _) = 1#1
    rw [show IntOp.cmpi .eq (BitVec.ofNat 32 0) 0#32 = BitVec.ofBool true from rfl]
    generalize IntOp.cmpi .ne _ _ = b
    revert b; decide
  refine ⟨⟨t.val - 1, by have := t.isLt; omega⟩, by show t.val = t.val - 1 + 1; omega, ?_, ?_⟩
  · unfold Used at hu ⊢
    rw [cond1_iff] at hu ⊢
    have e1 := ofNat_toInt t
    have e2 := ofNat_toInt ⟨t.val - 1, by have := t.isLt; omega⟩
    refine lt_of_le_of_lt ?_ hu
    refine le_of_eq_of_le e2 (le_of_le_of_eq ?_ e1.symm)
    exact_mod_cast Nat.sub_le _ _
  · have hE := wordE_eq a t
    have hP := wordP_eq a t ⟨t.val - 1, by have := t.isLt; omega⟩ (by show t.val = t.val - 1 + 1; omega)
    rw [hE, hP] at hc
    by_contra hne
    apply hc
    have hw : (tabE a (tix a t)) ≠ tabE a (tix a ⟨t.val - 1, by have := t.isLt; omega⟩) := fun e =>
      hne (Fin.ext (show (tabE a (tix a _)).toNat = (tabE a (tix a t)).toNat by rw [e]))
    show IntOp.ori _ (IntOp.cmpi .ne _ _) = 1#1
    rw [show IntOp.cmpi .ne (tabE a (tix a t)) (tabE a (tix a ⟨t.val - 1, by have := t.isLt; omega⟩)) = BitVec.ofBool true from
      congrArg BitVec.ofBool (bne_iff_ne.mpr hw)]
    generalize Scalar.cmpi .eq _ _ = b
    revert b; decide

end Cert.KernelIdeal.Experts

end
-- ==== Proof.ExpertsIdeal.Data.lean ====
module

public import proofs.«01_k».proof.Proof.ExpertsIdeal.Scratch
public import proofs.«01_k».proof.Proof.ExpertsIdeal.Blocks
public import Idealize.ShloMosaic.Lib.Pipeline.TableIdle

/-! What the pipeline holds between its points: the scratch buffers hold the weights of the last point's expert once
    that point is in use; the output block of a point is the layer of its rows, or zero. -/

set_option maxRecDepth 16384
set_option Elab.async false

@[expose] public noncomputable section

namespace Cert.KernelIdeal.Experts

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The algebra's element of the rounds. -/
abbrev EP : Emb (UR sig nD τ) 𝕄 := emb₁

variable (a : (pcfg0 (F := Ideal)).Adm)
variable (m : (ℓ : Loc nD τ sig) → Buf (Elt Ideal) ℓ) (ρ : Dev nD → PrngReg)

/-- After `k` points, with the last one in use, the scratch buffers hold its expert's weights, narrowed. -/
def Held (c : Dev nD) (k : ℕ) (f0 : Buf (Elt Ideal) ((c : Thread nD τ).loc cc0_scratch0)) (f1 : Buf (Elt Ideal) ((c : Thread nD τ).loc cc0_scratch1)) : Prop :=
  ∀ s : Fin (cfgT a).N, k = s.val + 1 → Used a s →
    scM0_0.view.read (Elt Ideal) f0 = castUp (iblk a m ρ c (1 : Fin 6) s) ∧ scM0_1.view.read (Elt Ideal) f1 = castDown (iblk a m ρ c (3 : Fin 6) s)

/-- The invariant before point `t`: the scratch buffers, holding what `Held` says, and half of each table. -/
def Phi (c : Dev nD) (t : Fin ((cfgT a).N + 1)) : sProp 𝕄 :=
  iprop((∃ f0 f1, ⌜Held a m ρ c t.val f0 f1⌝ ∗ (scM0_0.view.loc (c : Thread nD τ) ↦{fullShare} f0) ∗ (scM0_1.view.loc (c : Thread nD τ) ↦{fullShare} f1))
    ∗ (tbM0_0.view.loc (c : Thread nD τ) ↦{fullShare.right} tabE a) ∗ (tbM0_1.view.loc (c : Thread nD τ) ↦{fullShare.right} tabN a))

/-- The output block of point `t`. -/
def oblk (c : Dev nD) (t : Fin (cfgT a).N) : S256x1024.Idx → Elt Ideal .f32 :=
  if Used a t then
    layer (iblk a m ρ c (0 : Fin 6) t) (castUp (iblk a m ρ c (1 : Fin 6) t)) (iblk a m ρ c (2 : Fin 6) t) (castDown (iblk a m ρ c (3 : Fin 6) t)) (iblk a m ρ c (4 : Fin 6) t)
  else k0_pay2 (F := Ideal)

/-- The proof data of the one pipeline on core `c`. -/
def dats (_ : Fin 1) (c : Dev nD) : Dat τ (Elt Ideal) Unit ℕ (UR sig nD τ) ℕ (cfgT a) c where
  A w := (s₀ m ρ).mem (((cfgT a).win w).arr.view.loc (c : Thread nD τ))
  after w t := match w with
    | ⟨0, _⟩ => iblk a m ρ c (0 : Fin 6) t
    | ⟨1, _⟩ => iblk a m ρ c (1 : Fin 6) t
    | ⟨2, _⟩ => iblk a m ρ c (2 : Fin 6) t
    | ⟨3, _⟩ => iblk a m ρ c (3 : Fin 6) t
    | ⟨4, _⟩ => iblk a m ρ c (4 : Fin 6) t
    | ⟨5, _⟩ => oblk a m ρ c t
  Φ t := Phi a m ρ c t
  q _ := fullShare
  owed _ := 0

theorem after0 (c : Dev nD) (t : Fin (cfgT a).N) : (dats a m ρ 0 c).after (0 : Fin 6) t = iblk a m ρ c (0 : Fin 6) t := rfl
theorem after1 (c : Dev nD) (t : Fin (cfgT a).N) : (dats a m ρ 0 c).after (1 : Fin 6) t = iblk a m ρ c (1 : Fin 6) t := rfl
theorem after2 (c : Dev nD) (t : Fin (cfgT a).N) : (dats a m ρ 0 c).after (2 : Fin 6) t = iblk a m ρ c (2 : Fin 6) t := rfl
theorem after3 (c : Dev nD) (t : Fin (cfgT a).N) : (dats a m ρ 0 c).after (3 : Fin 6) t = iblk a m ρ c (3 : Fin 6) t := rfl
theorem after4 (c : Dev nD) (t : Fin (cfgT a).N) : (dats a m ρ 0 c).after (4 : Fin 6) t = iblk a m ρ c (4 : Fin 6) t := rfl
theorem after5 (c : Dev nD) (t : Fin (cfgT a).N) : (dats a m ρ 0 c).after (5 : Fin 6) t = oblk a m ρ c t := rfl

/-- An input window's buffer holds its block when a point begins. -/
theorem before0 (c : Dev nD) (t : Fin (cfgT a).N) (d) : (dats a m ρ 0 c).before (0 : Fin 6) t d = iblk a m ρ c (0 : Fin 6) t :=
  ((dats a m ρ 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin (cfgT a).N) (d) : (dats a m ρ 0 c).before (1 : Fin 6) t d = iblk a m ρ c (1 : Fin 6) t :=
  ((dats a m ρ 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin (cfgT a).N) (d) : (dats a m ρ 0 c).before (2 : Fin 6) t d = iblk a m ρ c (2 : Fin 6) t :=
  ((dats a m ρ 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin (cfgT a).N) (d) : (dats a m ρ 0 c).before (3 : Fin 6) t d = iblk a m ρ c (3 : Fin 6) t :=
  ((dats a m ρ 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin (cfgT a).N) (d) : (dats a m ρ 0 c).before (4 : Fin 6) t d = iblk a m ρ c (4 : Fin 6) t :=
  ((dats a m ρ 0 c).before_in_eq_fetched (4 : Fin 6) rfl (fun _ => rfl) (fun _ _ _ => rfl) (fun t => by rw [after4]; unfold Dat.blockOf iblk; rfl) t d).trans
    (by unfold Dat.fetched Dat.blockOf iblk; rfl)

/-- The output window's buffer holds anything when a point begins. -/
theorem before5 (c : Dev nD) (t : Fin (cfgT a).N) (d) : (dats a m ρ 0 c).before (5 : Fin 6) t d = d := by
  rw [(dats a m ρ 0 c).before_out_traj (5 : Fin 6) rfl (fun _ _ => rfl)
    (fun t _ hi _ => by rw [idle5 a t] at hi; exact absurd hi (by decide)) t.val t rfl d, fresh5 a t]
  rfl

theorem zero2 : (![0, 0] : Fin 2 → ℕ) = fun _ => 0 := by funext a; fin_cases a <;> rfl
theorem zero3 : (![0, 0, 0] : Fin 3 → ℕ) = fun _ => 0 := by funext a; fin_cases a <;> rfl

/-! ### The stored block of each kind of point -/

/-- A point in use with a new expert stores the layer of its rows. -/
theorem out_changed (c : Dev nD) (t : Fin (cfgT a).N) (f) (h1 hc1 h3) (hu : Used a t) :
    (st5 a t).view.read (Elt Ideal) ((st5 a t).view.writes (Elt Ideal) f
      (kernelRun0_A c (crd a t) (st0 a t) (wh0 a t) (st1 a t) (wh1 a t) (st2 a t) (wh2 a t) (st3 a t) (wh3 a t) (st4 a t) (wh4 a t) (st5 a t) (wh5 a t) (tabE a) (tabN a) (iblk a m ρ c (0 : Fin 6) t) (iblk a m ρ c (1 : Fin 6) t) (iblk a m ρ c (2 : Fin 6) t) (iblk a m ρ c (3 : Fin 6) t) (iblk a m ρ c (4 : Fin 6) t) h1 hc1 h3).1) = oblk a m ρ c t := by
  show (st5 a t).view.read (Elt Ideal) ((st5 a t).view.writes (Elt Ideal) f
    (kernelRun0_A.sl.HO5_1 (st0 a t) (st1 a t) (st2 a t) (st3 a t) (st4 a t) (iblk a m ρ c (0 : Fin 6) t) (iblk a m ρ c (1 : Fin 6) t) (iblk a m ρ c (2 : Fin 6) t) (iblk a m ρ c (3 : Fin 6) t) (iblk a m ρ c (4 : Fin 6) t))) = _
  unfold kernelRun0_A.sl.HO5_1
  rw [read_one]
  unfold kernelRun0_A.sl.r_3 kernelRun0_A.sl.v21 kernelRun0_A.sl.v47 View.readCov
  rw [readAt_full _ _ _ zero2, readAt_full _ _ _ zero2, readAt_full _ _ _ zero3, readAt_full _ _ _ zero2, readAt_full _ _ _ zero3,
    scratch_up, scratch_down, View.read_rep, View.read_rep, View.read_rep]
  unfold oblk; rw [if_pos hu]; rfl

/-- A point in use with its predecessor's expert stores the layer of its rows, its weights being in the scratch buffers. -/
theorem out_same (c : Dev nD) (t : Fin (cfgT a).N) (f xa0 xa1) (h1 hc1 h3) (hu : Used a t)
    (e0 : scM0_0.view.read (Elt Ideal) xa0 = castUp (iblk a m ρ c (1 : Fin 6) t)) (e1 : scM0_1.view.read (Elt Ideal) xa1 = castDown (iblk a m ρ c (3 : Fin 6) t)) :
    (st5 a t).view.read (Elt Ideal) ((st5 a t).view.writes (Elt Ideal) f
      (kernelRun0_B c (crd a t) (st0 a t) (wh0 a t) (st1 a t) (wh1 a t) (st2 a t) (wh2 a t) (st3 a t) (wh3 a t) (st4 a t) (wh4 a t) (st5 a t) (wh5 a t) (tabE a) (tabN a) (iblk a m ρ c (0 : Fin 6) t) (iblk a m ρ c (1 : Fin 6) t) (iblk a m ρ c (2 : Fin 6) t) (iblk a m ρ c (3 : Fin 6) t) (iblk a m ρ c (4 : Fin 6) t) xa0 xa1 h1 hc1 h3).1) = oblk a m ρ c t := by
  show (st5 a t).view.read (Elt Ideal) ((st5 a t).view.writes (Elt Ideal) f
    (kernelRun0_B.sl.HO5_1 c (st0 a t) (st2 a t) (st4 a t) (iblk a m ρ c (0 : Fin 6) t) (iblk a m ρ c (2 : Fin 6) t) (iblk a m ρ c (4 : Fin 6) t) xa0 xa1)) = _
  unfold kernelRun0_B.sl.HO5_1
  rw [read_one]
  unfold kernelRun0_B.sl.r_3
  rw [readAt_full _ _ _ zero2, readAt_full _ _ _ zero2, readAt_full _ _ _ zero3, readAt_full _ _ _ zero2, readAt_full _ _ _ zero3,
    e0, e1, View.read_rep, View.read_rep, View.read_rep]
  unfold oblk; rw [if_pos hu]; rfl

/-- A point not in use stores zero. -/
theorem out_unused (c : Dev nD) (t : Fin (cfgT a).N) (f xa0 xa1) (h1 h3) (hu : ¬ Used a t) :
    (st5 a t).view.read (Elt Ideal) ((st5 a t).view.writes (Elt Ideal) f
      (kernelRun0_C c (crd a t) (st0 a t) (wh0 a t) (st1 a t) (wh1 a t) (st2 a t) (wh2 a t) (st3 a t) (wh3 a t) (st4 a t) (wh4 a t) (st5 a t) (wh5 a t) (tabE a) (tabN a) (iblk a m ρ c (0 : Fin 6) t) (iblk a m ρ c (1 : Fin 6) t) (iblk a m ρ c (2 : Fin 6) t) (iblk a m ρ c (3 : Fin 6) t) (iblk a m ρ c (4 : Fin 6) t) xa0 xa1 h1 h3).1) = oblk a m ρ c t := by
  show (st5 a t).view.read (Elt Ideal) ((st5 a t).view.writes (Elt Ideal) f kernelRun0_C.sl.HO5_1) = _
  unfold kernelRun0_C.sl.HO5_1
  rw [read_one]
  unfold oblk; rw [if_neg hu]

end Cert.KernelIdeal.Experts

end
-- ==== Proof.ExpertsIdeal.Body.lean ====
module

public import proofs.«01_k».proof.Proof.ExpertsIdeal.Data

/-! One point of the pipeline, run from what it is given to what it leaves. -/

set_option maxRecDepth 16384
set_option Elab.async false

@[expose] public noncomputable section

namespace Cert.KernelIdeal.Experts

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (a : (pcfg0 (F := Ideal)).Adm)
variable (m : (ℓ : Loc nD τ sig) → Buf (Elt Ideal) ℓ) (ρ : Dev nD → PrngReg)

/-- A point's number is that of one point only. -/
theorem point_unique {t s : Fin (cfgT a).N} (h : t.val + 1 = s.val + 1) : s = t := Fin.ext (Nat.succ_injective h).symm

/-- Points with the same expert have the same blocks of weights. -/
theorem same_up (c : Dev nD) (s t : Fin (cfgT a).N) (h : expert a s = expert a t) : iblk a m ρ c (1 : Fin 6) s = iblk a m ρ c (1 : Fin 6) t :=
  funext fun (y : S1x1024x2048.Idx) => by rw [iblk1_apply a m ρ c s y, iblk1_apply a m ρ c t y, h]
theorem same_down (c : Dev nD) (s t : Fin (cfgT a).N) (h : expert a s = expert a t) : iblk a m ρ c (3 : Fin 6) s = iblk a m ρ c (3 : Fin 6) t :=
  funext fun (y : S1x1024x1024.Idx) => by rw [iblk3_apply a m ρ c s y, iblk3_apply a m ρ c t y, h]

/-- The body at point `t` on its staging memrefs, as the pipeline calls it. -/
abbrev bodyT (t : Fin (cfgT a).N) : Prog (TpuEff nD τ sig (Elt Ideal) Λ₀ .tc) PUnit :=
  cc0_experts (crd a t) (Memref.whole main_arg0) (Memref.isWhole_whole _) (Memref.whole main_arg1) (Memref.isWhole_whole _) (st0 a t) (wh0 a t) (st1 a t) (wh1 a t) (st2 a t) (wh2 a t) (st3 a t) (wh3 a t) (st4 a t) (wh4 a t) (st5 a t) (wh5 a t) (Memref.whole cc0_scratch0) (Memref.isWhole_whole _) (Memref.whole cc0_scratch1) (Memref.isWhole_whole _)

set_option maxHeartbeats 4000000 in
/-- The body at point `t`, from the invariant before it and the blocks, runs to the invariant after it and the blocks. -/
theorem sound_body (c : Dev nD) (t : Fin (cfgT a).N) :
    iprop((dats a m ρ 0 c).Φ t.castSucc ∗ (dats a m ρ 0 c).owesAt () t.castSucc
        ∗ (∃ d, owns (c : Thread nD τ) (st0 a t) fullShare ((dats a m ρ 0 c).before (0 : Fin 6) t d))
        ∗ (∃ d, owns (c : Thread nD τ) (st1 a t) fullShare ((dats a m ρ 0 c).before (1 : Fin 6) t d))
        ∗ (∃ d, owns (c : Thread nD τ) (st2 a t) fullShare ((dats a m ρ 0 c).before (2 : Fin 6) t d))
        ∗ (∃ d, owns (c : Thread nD τ) (st3 a t) fullShare ((dats a m ρ 0 c).before (3 : Fin 6) t d))
        ∗ (∃ d, owns (c : Thread nD τ) (st4 a t) fullShare ((dats a m ρ 0 c).before (4 : Fin 6) t d))
        ∗ (∃ d, owns (c : Thread nD τ) (st5 a t) fullShare ((dats a m ρ 0 c).before (5 : Fin 6) t d)))
      ⊢ wp frame (wpE (defs₀ (F := Ideal)) Variants.none c none) Set.univ (bodyT a t) fun _ =>
          iprop((dats a m ρ 0 c).Φ t.succ ∗ (dats a m ρ 0 c).owesAt () t.succ
            ∗ bigSep Finset.univ fun w : Fin (cfgT a).W =>
                match (cfgT a).idle w ((cfgT a).grid.coords t) with
                | true =>
                  match ((cfgT a).win w).flush t with
                  | false => iprop(∃ d, owns (c : Thread nD τ) (((cfgT a).win w).stage ((cfgT a).slots t w)) fullShare ((dats a m ρ 0 c).before w t d))
                  | true => owns (c : Thread nD τ) (((cfgT a).win w).stage ((cfgT a).slots t w)) fullShare ((dats a m ρ 0 c).after w t)
                | false => owns (c : Thread nD τ) (((cfgT a).win w).stage ((cfgT a).slots t w)) fullShare ((dats a m ρ 0 c).after w t)) := by
  rw [bigSep_W0]
  rewrite [idle5 a t]
  simp only [before0, before1, before2, before3, before4, before5, after0, after1, after2, after3, after4, after5, flush5 a t]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi; simp only [Fin.val_castSucc, Fin.val_succ]
  iintro ⟨⟨⟨%f0, %f1, %hh, HS0, HS1⟩, HT0, HT1⟩, Ho, ⟨%d0, H0⟩, ⟨%d1, H1⟩, ⟨%d2, H2⟩, ⟨%d3, H3⟩, ⟨%d4, H4⟩, ⟨%d5, H5⟩⟩
  by_cases hu : Used a t
  · have h3 : ¬ k0_cond3 (crd a t) (wordN a) = 1#1 := fun h => (cond3_iff _ _).mp h hu
    by_cases hc : Changed a t
    · iapply ((kernelRun0_A c (crd a t) (st0 a t) (wh0 a t) (st1 a t) (wh1 a t) (st2 a t) (wh2 a t) (st3 a t) (wh3 a t) (st4 a t) (wh4 a t) (st5 a t) (wh5 a t) (tabE a) (tabN a) (iblk a m ρ c (0 : Fin 6) t) (iblk a m ρ c (1 : Fin 6) t) (iblk a m ρ c (2 : Fin 6) t) (iblk a m ρ c (3 : Fin 6) t) (iblk a m ρ c (4 : Fin 6) t) hu hc h3).2.2.2 f0 f1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · isplitl [HS0 HS1]
        · iexists _; iexists _; isplitr; swap
          · isplitl [HS0]; · iexact HS0
            iexact HS1
          · ipureintro; intro s hs _; rw [point_unique a hs]; exact ⟨scratch_up _ (st1 a t) _ _, scratch_down _ (st3 a t) _ _⟩
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      unfold owns; iexists _; isplitr; swap
      · iexact H5
      · ipureintro; exact out_changed a m ρ c t _ hu hc h3 hu
    · obtain ⟨s, hs, hus, hse⟩ := same_expert a t hu hc
      have hw := hh s hs hus
      rw [same_up a m ρ c s t hse, same_down a m ρ c s t hse] at hw
      iapply ((kernelRun0_B c (crd a t) (st0 a t) (wh0 a t) (st1 a t) (wh1 a t) (st2 a t) (wh2 a t) (st3 a t) (wh3 a t) (st4 a t) (wh4 a t) (st5 a t) (wh5 a t) (tabE a) (tabN a) (iblk a m ρ c (0 : Fin 6) t) (iblk a m ρ c (1 : Fin 6) t) (iblk a m ρ c (2 : Fin 6) t) (iblk a m ρ c (3 : Fin 6) t) (iblk a m ρ c (4 : Fin 6) t) f0 f1 hu hc h3).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · isplitl [HS0 HS1]
        · iexists _; iexists _; isplitr; swap
          · isplitl [HS0]; · iexact HS0
            iexact HS1
          · ipureintro; intro s hs _; rw [point_unique a hs]; exact hw
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      unfold owns; iexists _; isplitr; swap
      · iexact H5
      · ipureintro; exact out_same a m ρ c t _ f0 f1 hu hc h3 hu hw.1 hw.2
  · have h3 : k0_cond3 (crd a t) (wordN a) = 1#1 := (cond3_iff _ _).mpr hu
    iapply ((kernelRun0_C c (crd a t) (st0 a t) (wh0 a t) (st1 a t) (wh1 a t) (st2 a t) (wh2 a t) (st3 a t) (wh3 a t) (st4 a t) (wh4 a t) (st5 a t) (wh5 a t) (tabE a) (tabN a) (iblk a m ρ c (0 : Fin 6) t) (iblk a m ρ c (1 : Fin 6) t) (iblk a m ρ c (2 : Fin 6) t) (iblk a m ρ c (3 : Fin 6) t) (iblk a m ρ c (4 : Fin 6) t) f0 f1 hu h3).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    isplitl [HS0]; · iexact HS0
    isplitl [HS1]; · iexact HS1
    iintro ⟨H0, H1, H2, H3, H4, HT0, HT1, ⟨%e5, H5⟩, HS0, HS1⟩
    isplitl [HS0 HS1 HT0 HT1]
    · isplitl [HS0 HS1]
      · iexists _; iexists _; isplitr; swap
        · isplitl [HS0]; · iexact HS0
          iexact HS1
        · ipureintro; intro s hs hus; rw [point_unique a hs] at hus; exact absurd hus hu
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact out_unused a m ρ c t _ f0 f1 hu h3 hu

/-- The body's obligation, at every point. -/
theorem body_obligation (c : Dev nD) : BodyObligation (dats a m ρ 0 c) (defs₀ (F := Ideal)) Variants.none () Set.univ := fun t => by
  rw [bigSep_W0]
  exact sound_body a m ρ c t

end Cert.KernelIdeal.Experts

end
-- ==== Proof.ExpertsIdeal.Launch.lean ====
module

public import proofs.«01_k».proof.Proof.ExpertsIdeal.Body
public import Idealize.ShloMosaic.Lib.Pipeline.Quiescent
public import Idealize.ShloMosaic.Lib.Claim
public import Idealize.ShloMosaic.Lib.Pipeline.Kit
public import Idealize.ShloMosaic.Adequacy
public import Idealize.ShloMosaic.Init

/-! The launch of the pipeline at any tables whose blocks lie in their arrays, and what it leaves: the arguments unchanged,
    the result at what the pipeline's data say. -/

set_option maxRecDepth 16384
set_option Elab.async false

@[expose] public noncomputable section

namespace Cert.KernelIdeal.Experts

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (a : (pcfg0 (F := Ideal)).Adm)
variable (m : (ℓ : Loc nD τ sig) → Buf (Elt Ideal) ℓ) (ρ : Dev nD → PrngReg)

/-- The launch memory holds the tables `a`. -/
def Pinned : Prop := (∀ c : Dev nD, m ((c : Thread nD τ).loc main_arg0) = tabE a) ∧ ∀ c : Dev nD, m ((c : Thread nD τ).loc main_arg1) = tabN a

/-- The rounds library's launch element. -/
def u₀ : UR sig nD τ :=
  initOf (Pipeline.cells (pcsT a) ((launch0 (F := Ideal)).cellOf_inj fun _ => a))
    (Pipeline.launchToks (pcsT a) ((launch0 (F := Ideal)).cellOf_inj fun _ => a))

theorem share_eq (c : Dev nD) (w : Fin (cfgT a).W) : (dats a m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point, from the tables and the scratch buffers; -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩⟩
  isplitl [HS0 HS1]
  · iexists a0; iexists a1; isplitr; swap
    · isplitl [HS0]; · iexact HS0
      iexact HS1
    · ipureintro; intro s hs; exact absurd hs (Nat.succ_ne_zero _).symm
  isplitl [HT0]
  · iexact HT0
  iexact HT1

/-- after the last point it gives the scratch buffers back. -/
theorem phiN_exit (c : Dev nD) : (dats a m ρ 0 c).Φ (Fin.last (cfgT a).N) ⊢ iprop(BI.emp ∗ Pipeline.scopedRest spec0 c) := by
  rw [scopedRest0_eq, show (dats a m ρ 0 c).Φ (Fin.last (cfgT a).N) = Phi a m ρ c (Fin.last _) from rfl]
  unfold Phi
  iintro ⟨⟨%a0, %a1, -, HS0, HS1⟩, -, -⟩
  isplitr; · iempintro
  isplitl [HS0]
  · iexists a0; iexact HS0
  iexists a1; iexact HS1

/-- The physical post: every array at what the library computes, every table at what the pipeline ran at. -/
def QC : PUnit × MemSt nD τ sig (Elt Ideal) → Prop := fun r =>
  ∀ c : Dev nD, (∀ w : Fin (cfgT a).W, r.2.mem (((cfgT a).win w).arr.view.loc (c : Thread nD τ)) = (dats a m ρ 0 c).arrAt w (cfgT a).N)
    ∧ ∀ j, r.2.mem ((c : Thread nD τ).loc (pre0.ref j)) = a.1 j

theorem V_pre (hp : Pinned a m) (c : Dev nD) (j : Fin 2) : m ((c : Thread nD τ).loc (pre0.ref j)) = a.1 j := by
  fin_cases j
  · exact hp.1 c
  · exact hp.2 c

set_option backward.isDefEq.respectTransparency.types false in
set_option maxHeartbeats 4000000 in
/-- From a launch memory that holds the tables `a`, each execution terminates with every array at what the pipeline's data
    say and every semaphore counter at zero. -/
theorem run_main_quiescent (hp : Pinned a m) : θ_run (defs (F := Ideal)) (onTc (τ := τ) (main (F := Ideal))) (s₀ m ρ) (fun r => QC a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre EP defs₀ Variants.none m ρ main
    (hbody := fun c => (body_obligation a m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsT a) (dats a m ρ) 0 (launch0 (F := Ideal)).win.arr_inj c (launch0 (F := Ideal)).arr_whole
      (share_eq a m ρ c) _ _ fun _ => rfl)
    (hpf := V_pre a m hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned a m) : θ_run (defs (F := Ideal)) (onTc (τ := τ) (main (F := Ideal))) (s₀ m ρ) (QC a m ρ) :=
  (θ_run defs _ _).mono (fun _ h => h.1) (run_main_quiescent a m ρ hp)

/-- `frame` without the counters: the argument arrays end unchanged. -/
theorem unchanged (hp : Pinned a m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2 c).symm, ((h c).1 (0 : Fin 6)).trans ((dats a m ρ 0 c).arrAt_in (0 : Fin 6) rfl _), ((h c).1 (1 : Fin 6)).trans ((dats a m ρ 0 c).arrAt_in (1 : Fin 6) rfl _), ((h c).1 (2 : Fin 6)).trans ((dats a m ρ 0 c).arrAt_in (2 : Fin 6) rfl _), ((h c).1 (3 : Fin 6)).trans ((dats a m ρ 0 c).arrAt_in (3 : Fin 6) rfl _), ((h c).1 (4 : Fin 6)).trans ((dats a m ρ 0 c).arrAt_in (4 : Fin 6) rfl _)⟩) (run_main a m ρ hp)

/-- From a launch memory that holds the tables `a`, each execution terminates, each argument ends unchanged and each
    semaphore counter ends at zero. -/
theorem frame (hp : Pinned a m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged a m ρ hp) ((θ_run defs _ _).mono (fun _ h => h.2) (run_main_quiescent a m ρ hp))

end Cert.KernelIdeal.Experts

end
-- ==== Proof.ExpertsIdeal.Tables.lean ====
module

public import proofs.«01_k».proof.Proof.ExpertsIdeal.Launch
public import proofs.«01_k».proof.Defs
public import Idealize.ShloMosaic.Lib.WordCmp
public import Idealize.ShloMosaic.Lib.Pipeline.Value

/-! What the precondition gives the launch: each table word names one of the 32 experts, so each weight block lies in its array. -/

set_option maxRecDepth 16384

@[expose] public noncomputable section

namespace Cert.KernelIdeal.Experts

open Cert.KernelIdeal Cert.KernelIdeal.Gen
open Idealize.ShloMosaic Idealize.ShloMosaic.ValueIdx Idealize.ShloMosaic.TcCoe Idealize.SL.Sem

variable (m : (ℓ : Loc nD τ sig) → Buf (Elt Ideal) ℓ)

/-- A word between 0 and 31, signed, is below 32. -/
theorem small_of_between (b : BitVec 32) (h : IntOp.andi (IntOp.cmpi .sge b 0#32) (IntOp.cmpi .sle b 31#32) = 1#1) : b.toNat < 32 := by
  rw [WordCmp.cmpi_sge_eq, WordCmp.cmpi_sle_eq] at h
  have h0 : (0#32 : BitVec 32).toInt ≤ b.toInt ∧ b.toInt ≤ (31#32 : BitVec 32).toInt := by
    by_cases h1 : (0#32 : BitVec 32).toInt ≤ b.toInt
    · by_cases h2 : b.toInt ≤ (31#32 : BitVec 32).toInt
      · exact ⟨h1, h2⟩
      · rw [decide_eq_true h1, decide_eq_false h2] at h; exact absurd h (by decide)
    · rw [decide_eq_false h1] at h
      revert h
      cases decide (b.toInt ≤ (31#32 : BitVec 32).toInt) <;> exact fun h => absurd h (by decide)
  have hb := b.isLt
  rw [show (0#32 : BitVec 32).toInt = 0 from rfl, show (31#32 : BitVec 32).toInt = 31 from rfl, BitVec.toInt_eq_toNat_cond] at h0
  split at h0 <;> omega

/-- Each word of the table is below 32. -/
theorem table_small [hPre : Cert.Pre_experts_named.Facts] (h : Cert.Pre_KernelIdeal m) (c : Dev nD) (k : S296.Idx) :
    (m ((c : Thread nD τ).loc main_arg0) k).toNat < 32 := by
  refine small_of_between _ (Eq.trans ?_ (congrFun (h c) k))
  have e0 : broadcastInDim Cert.Pre_experts_named.S296 ![] Cert.Pre_experts_named.Facts.bcast_S_S296 (constantI Cert.Pre_experts_named.S_ 32 0#32) k = 0#32 :=
    broadcastInDim_apply _ _ _ k (fun a => a.elim0) (fun a => a.elim0)
  have e1 : broadcastInDim Cert.Pre_experts_named.S296 ![] Cert.Pre_experts_named.Facts.bcast_S_S296 (constantI Cert.Pre_experts_named.S_ 32 31#32) k = 31#32 :=
    broadcastInDim_apply _ _ _ k (fun a => a.elim0) (fun a => a.elim0)
  show IntOp.andi (IntOp.cmpi .sge _ _) (IntOp.cmpi .sle _ _)
    = IntOp.andi (IntOp.cmpi .sge _ (broadcastInDim Cert.Pre_experts_named.S296 ![] Cert.Pre_experts_named.Facts.bcast_S_S296 (constantI Cert.Pre_experts_named.S_ 32 0#32) k))
      (IntOp.cmpi .sle _ (broadcastInDim Cert.Pre_experts_named.S296 ![] Cert.Pre_experts_named.Facts.bcast_S_S296 (constantI Cert.Pre_experts_named.S_ 32 31#32) k))
  rw [e0, e1]

/-- The one device. -/
abbrev dev0 : Dev nD := 0
theorem dev_eq (c : Dev nD) : c = dev0 := Subsingleton.elim (α := Fin 1) _ _

/-- The tables the launch memory holds. -/
def tables : pre0.Contents (Elt Ideal) := fun j => m ((dev0 : Thread nD τ).loc (pre0.ref j))

/-- At tables whose words are below 32 each block lies in its array. -/
theorem tables_ok (hs : ∀ k : S296.Idx, (m ((dev0 : Thread nD τ).loc main_arg0) k).toNat < 32) : ok0 (F := Ideal) (tables m) := by
  refine ⟨fun i => ⟨fun b => ?_, .inl rfl⟩, fun i => ⟨fun b => ?_, .inl rfl⟩, fun i => ⟨fun b => ?_, .inl rfl⟩, fun i => ⟨fun b => ?_, .inl rfl⟩⟩
  · fin_cases b
    · show ((m ((dev0 : Thread nD τ).loc main_arg0) _).toNat + 1) * 1 ≤ 32
      rw [Nat.mul_one]; exact hs _
    · show (0 + 1) * 1024 ≤ 1024; decide
    · show (0 + 1) * 2048 ≤ 2048; decide
  · fin_cases b
    · show ((m ((dev0 : Thread nD τ).loc main_arg0) _).toNat + 1) * 1 ≤ 32
      rw [Nat.mul_one]; exact hs _
    · show (0 + 1) * 1 ≤ 1; decide
    · show (0 + 1) * 2048 ≤ 2048; decide
  · fin_cases b
    · show ((m ((dev0 : Thread nD τ).loc main_arg0) _).toNat + 1) * 1 ≤ 32
      rw [Nat.mul_one]; exact hs _
    · show (0 + 1) * 1024 ≤ 1024; decide
    · show (0 + 1) * 1024 ≤ 1024; decide
  · fin_cases b
    · show ((m ((dev0 : Thread nD τ).loc main_arg0) _).toNat + 1) * 1 ≤ 32
      rw [Nat.mul_one]; exact hs _
    · show (0 + 1) * 1 ≤ 1; decide
    · show (0 + 1) * 1024 ≤ 1024; decide

/-- The tables with the fact that their blocks lie in the arrays. -/
def admitted [hPre : Cert.Pre_experts_named.Facts] (h : Cert.Pre_KernelIdeal m) : (pcfg0 (F := Ideal)).Adm :=
  ⟨tables m, tables_ok m fun k => table_small m h dev0 k⟩

/-- The launch memory holds them, on every device. -/
theorem pinned [hPre : Cert.Pre_experts_named.Facts] (h : Cert.Pre_KernelIdeal m) : Pinned (admitted m h) m :=
  ⟨fun c => by rw [dev_eq c]; rfl, fun c => by rw [dev_eq c]; rfl⟩

end Cert.KernelIdeal.Experts

end
-- ==== Proof.Experts.Spec.lean ====
module

public import Idealize.ShloMosaic.PureOps.Ideal
public import Idealize.ShloMosaic.PureOps.Ideal.Laws
public import Idealize.ShloMosaic.Lib.ValueIdxCore

/-! What the experts compute over the extended reals: for each row its expert's first product with its bias, the clamped
    gate, and the second product with its bias. -/

@[expose] public noncomputable section

namespace Cert.Experts

open Idealize.ShloMosaic Idealize.ShloMosaic.ValueIdx

/-- The clamped gate of the two halves `u` and `l`: `g · sigmoid(1.702 g) · (l' + 1)` with `g = min(u, 7)` and `l'` clamped to ±7. -/
def gate (u l : Ideal .f32) : Ideal .f32 :=
  FloatOps.mulf
    (FloatOps.mulf (FloatOps.minimumf u (FloatOps.ofBits .f32 0x40E00000#32))
      (FloatOps.hostDivf (FloatOps.ofBits .f32 0x3F800000#32)
        (FloatOps.addf (FloatOps.ofBits .f32 0x3F800000#32)
          (FloatOps.hostUnary .exp (FloatOps.hostNegf (FloatOps.mulf (FloatOps.ofBits .f32 0x3FD9DB23#32)
            (FloatOps.minimumf u (FloatOps.ofBits .f32 0x40E00000#32))))))))
    (FloatOps.addf (FloatOps.minimumf (FloatOps.ofBits .f32 0x40E00000#32) (FloatOps.maximumf (FloatOps.ofBits .f32 0xC0E00000#32) l))
      (FloatOps.ofBits .f32 0x3F800000#32))

variable (xs : (⟨2, ![76288, 1024]⟩ : Shape).Idx → Ideal .f32) (wg : (⟨3, ![32, 1024, 2048]⟩ : Shape).Idx → Ideal .f32)
  (bg : (⟨3, ![32, 1, 2048]⟩ : Shape).Idx → Ideal .f32) (wd : (⟨3, ![32, 1024, 1024]⟩ : Shape).Idx → Ideal .f32)
  (bd : (⟨3, ![32, 1, 1024]⟩ : Shape).Idx → Ideal .f32)

/-- Column `n` of row `R` times the first weights of expert `e`, with the bias. -/
def up (e : Fin 32) (R : Fin 76288) (n : Fin 2048) : Ideal .f32 :=
  FloatOps.addf (F := Ideal) (φ := .f32) (∑ k : Fin 1024, (xs (ix2 R k) : EReal) * wg (ix3 e k n)) (bg (ix3 e (0 : Fin 1) n))

/-- The column of the gate's other half. -/
abbrev low (n : Fin 1024) : Fin 2048 := ⟨n.val, Nat.lt_trans n.isLt (by decide)⟩
abbrev high (n : Fin 1024) : Fin 2048 := ⟨1024 + n.val, Nat.add_lt_add_left n.isLt 1024⟩

/-- Column `j` of expert `e`'s layer of row `R`. -/
def down (e : Fin 32) (R : Fin 76288) (j : Fin 1024) : Ideal .f32 :=
  FloatOps.addf (F := Ideal) (φ := .f32)
    (∑ k : Fin 1024, (gate (up xs wg bg e R (low k)) (up xs wg bg e R (high k)) : EReal) * wd (ix3 e k j)) (bd (ix3 e (0 : Fin 1) j))

/-- The expert a table word names, clamped into the experts. -/
def named (b : BitVec 32) : Fin 32 := ⟨min b.toInt.toNat 31, by omega⟩

/-- The output row `R`: its block's expert's layer of the row while the block is in use, otherwise zero. -/
def rowOut (be : (⟨1, ![296]⟩ : Shape).Idx → BitVec 32) (nv : (⟨1, ![1]⟩ : Shape).Idx → BitVec 32) (t : Fin 296) (R : Fin 76288) (j : Fin 1024) : Ideal .f32 :=
  if (t.val : ℤ) < (nv (ix1 (0 : Fin 1))).toInt then down xs wg bg wd bd (named (be (ix1 t))) R j else FloatOps.ofBits .f32 0x00000000#32

/-- The whole output, in blocks of 256 rows. -/
def output (be : (⟨1, ![296]⟩ : Shape).Idx → BitVec 32) (nv : (⟨1, ![1]⟩ : Shape).Idx → BitVec 32) (i : (⟨2, ![75776, 1024]⟩ : Shape).Idx) : Ideal .f32 :=
  have h : (i 0).val < 75776 := (i 0).isLt
  rowOut xs wg bg wd bd be nv ⟨(i 0).val / 256, by omega⟩ ⟨(i 0).val, by omega⟩ (i 1)

/-- The gate with its constant's sign moved into the product. -/
theorem gate_eq (u l : Ideal .f32) :
    FloatOps.mulf
      (FloatOps.mulf (FloatOps.minimumf u (FloatOps.ofBits .f32 0x40E00000#32))
        (FloatOps.divf (FloatOps.ofBits .f32 0x3F800000#32)
          (FloatOps.addf (FloatOps.ofBits .f32 0x3F800000#32)
            (FloatOps.exp (FloatOps.mulf (FloatOps.ofBits .f32 0xBFD9DB23#32)
              (FloatOps.minimumf u (FloatOps.ofBits .f32 0x40E00000#32)))))))
      (FloatOps.addf (FloatOps.minimumf (FloatOps.ofBits .f32 0x40E00000#32) (FloatOps.maximumf (FloatOps.ofBits .f32 0xC0E00000#32) l))
        (FloatOps.ofBits .f32 0x3F800000#32)) = gate u l := by
  unfold gate
  have h : ∀ g : Ideal .f32, FloatOps.mulf (FloatOps.ofBits .f32 0xBFD9DB23#32) g
      = FloatOps.hostNegf (FloatOps.mulf (FloatOps.ofBits .f32 0x3FD9DB23#32) g) := fun g => by
    have hw : Ideal.ofBits .f32 0xBFD9DB23#32 = -Ideal.ofBits .f32 0x3FD9DB23#32 := by
      simp [Ideal.ofBits, Ideal.ieee]
    show Ideal.ofBits .f32 0xBFD9DB23#32 * (g : EReal) = -(Ideal.ofBits .f32 0x3FD9DB23#32 * (g : EReal))
    rw [hw, EReal.neg_mul]
  rw [h]
  rfl

end Cert.Experts

end
-- ==== Proof.ExpertsIdeal.Layer.lean ====
module

public import proofs.«01_k».proof.Proof.ExpertsIdeal.Scratch
public import proofs.«01_k».proof.Proof.Experts.Spec
public import Idealize.ShloMosaic.Lib.ValueIdx

/-! The stored block read at an index: two products, each the sum over its contracted axis, around the clamped gate. -/

set_option maxRecDepth 16384

@[expose] public noncomputable section

namespace Cert.KernelIdeal.Experts

open Cert.KernelIdeal Cert.KernelIdeal.Gen Cert.Experts
open Idealize.ShloMosaic Idealize.ShloMosaic.ValueIdx

/-- The first product at row `r` and column `n`. -/
theorem product_up (l : S256x1024.Idx → Ideal .bf16) (w : S1024x2048.Idx → Ideal .bf16) (r : Fin 256) (n : Fin 2048) :
    matmul dot_S256x1024_S1024x2048_S256x2048_1_0_0_1_n_n none l w (constant (F := Ideal) S256x2048 .f32 0x00000000#32) (ix2 r n)
      = ∑ k : Fin 1024, l (ix2 r k) * w (ix2 k n) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have hl : dot_S256x1024_S1024x2048_S256x2048_1_0_0_1_n_n.lhsIdx (ix2 r n) ((contrEquiv1 dot_S256x1024_S1024x2048_S256x2048_1_0_0_1_n_n 1024 rfl rfl).symm k) = ix2 r k :=
    funext fun b => Fin.ext (by
      match b with
      | ⟨0, _⟩ => rfl
      | ⟨1, _⟩ => exact (dot_S256x1024_S1024x2048_S256x2048_1_0_0_1_n_n.lhsIdx_val_of_single rfl _ _).trans hk)
  have hr : dot_S256x1024_S1024x2048_S256x2048_1_0_0_1_n_n.rhsIdx (ix2 r n) ((contrEquiv1 dot_S256x1024_S1024x2048_S256x2048_1_0_0_1_n_n 1024 rfl rfl).symm k) = ix2 k n :=
    funext fun b => Fin.ext (by
      match b with
      | ⟨0, _⟩ => exact (dot_S256x1024_S1024x2048_S256x2048_1_0_0_1_n_n.rhsIdx_val_of_single rfl _ _).trans hk
      | ⟨1, _⟩ => rfl)
  rw [hl, hr]

/-- The second product at row `r` and column `j`. -/
theorem product_down (l : S256x1024.Idx → Ideal .bf16) (w : S1024x1024.Idx → Ideal .bf16) (r : Fin 256) (j : Fin 1024) :
    matmul dot_S256x1024_S1024x1024_S256x1024_1_0_0_1_n_n none l w (constant (F := Ideal) S256x1024 .f32 0x00000000#32) (ix2 r j)
      = ∑ k : Fin 1024, l (ix2 r k) * w (ix2 k j) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have hl : dot_S256x1024_S1024x1024_S256x1024_1_0_0_1_n_n.lhsIdx (ix2 r j) ((contrEquiv1 dot_S256x1024_S1024x1024_S256x1024_1_0_0_1_n_n 1024 rfl rfl).symm k) = ix2 r k :=
    funext fun b => Fin.ext (by
      match b with
      | ⟨0, _⟩ => rfl
      | ⟨1, _⟩ => exact (dot_S256x1024_S1024x1024_S256x1024_1_0_0_1_n_n.lhsIdx_val_of_single rfl _ _).trans hk)
  have hr : dot_S256x1024_S1024x1024_S256x1024_1_0_0_1_n_n.rhsIdx (ix2 r j) ((contrEquiv1 dot_S256x1024_S1024x1024_S256x1024_1_0_0_1_n_n 1024 rfl rfl).symm k) = ix2 k j :=
    funext fun b => Fin.ext (by
      match b with
      | ⟨0, _⟩ => exact (dot_S256x1024_S1024x1024_S256x1024_1_0_0_1_n_n.rhsIdx_val_of_single rfl _ _).trans hk
      | ⟨1, _⟩ => rfl)
  rw [hl, hr]

/-- The bias of the first product, given to each row. -/
theorem bias_up (x2 : S1x1x2048.Idx → Ideal .f32) (r : Fin 256) (n : Fin 2048) :
    broadcastTo S256x2048 (shapeCast S1x2048 x2 shapeCasts_S1x1x2048_S1x2048) broadcasts_S1x2048_S256x2048 (ix2 r n) = x2 (ix3 (0 : Fin 1) (0 : Fin 1) n) := by
  refine (broadcastTo_apply _ broadcasts_S1x2048_S256x2048 (ix2 r n) (ix2 (0 : Fin 1) n) (fun b => ?_)).trans ?_
  · match b with
    | ⟨0, _⟩ => rfl
    | ⟨1, _⟩ => rfl
  · exact shapeCast_apply x2 shapeCasts_S1x1x2048_S1x2048 _ _ (by rw [Shape.rowMajor_val_two, Shape.rowMajor_val_three]; rfl)

/-- The bias of the second product, given to each row. -/
theorem bias_down (x4 : S1x1x1024.Idx → Ideal .f32) (r : Fin 256) (j : Fin 1024) :
    broadcastTo S256x1024 (shapeCast S1x1024 x4 shapeCasts_S1x1x1024_S1x1024) broadcasts_S1x1024_S256x1024 (ix2 r j) = x4 (ix3 (0 : Fin 1) (0 : Fin 1) j) := by
  refine (broadcastTo_apply _ broadcasts_S1x1024_S256x1024 (ix2 r j) (ix2 (0 : Fin 1) j) (fun b => ?_)).trans ?_
  · match b with
    | ⟨0, _⟩ => rfl
    | ⟨1, _⟩ => rfl
  · exact shapeCast_apply x4 shapeCasts_S1x1x1024_S1x1024 _ _ (by rw [Shape.rowMajor_val_two, Shape.rowMajor_val_three]; rfl)

/-- The first product with its bias, before the gate. -/
def first (x0 : S256x1024.Idx → Ideal .f32) (w1 : S1024x2048.Idx → Ideal .bf16) (x2 : S1x1x2048.Idx → Ideal .f32) : S256x2048.Idx → Ideal .f32 :=
  addf (matmul dot_S256x1024_S1024x2048_S256x2048_1_0_0_1_n_n none (truncf .bf16 x0 bitsLt_bf16_f32) w1 (constant (F := Ideal) S256x2048 .f32 0x00000000#32))
    (broadcastTo S256x2048 (shapeCast S1x2048 x2 shapeCasts_S1x1x2048_S1x2048) broadcasts_S1x2048_S256x2048)

theorem first_apply (x0 : S256x1024.Idx → Ideal .f32) (w1 : S1024x2048.Idx → Ideal .bf16) (x2 : S1x1x2048.Idx → Ideal .f32) (r : Fin 256) (n : Fin 2048) :
    first x0 w1 x2 (ix2 r n) = FloatOps.addf (F := Ideal) (φ := .f32) (∑ k : Fin 1024, (x0 (ix2 r k) : EReal) * w1 (ix2 k n)) (x2 (ix3 (0 : Fin 1) (0 : Fin 1) n)) :=
  congrArg₂ (FloatOps.addf (F := Ideal) (φ := .f32)) (product_up _ w1 r n) (bias_up x2 r n)

/-- The gated hidden block at row `r` and column `k`. -/
theorem hidden_apply (x0 : S256x1024.Idx → Ideal .f32) (w1 : S1024x2048.Idx → Ideal .bf16) (x2 : S1x1x2048.Idx → Ideal .f32) (r : Fin 256) (k : Fin 1024) :
    k0_pay5 (F := Ideal) x0 w1 x2 (ix2 r k) = gate (first x0 w1 x2 (ix2 r (low k))) (first x0 w1 x2 (ix2 r (high k))) := by
  have hu := extractStridedSlice_apply ![0, 0] (first x0 w1 x2) slices_S256x2048_o0_0_S256x1024 (ix2 r k) (ix2 r (low k)) (fun b => by
    match b with
    | ⟨0, _⟩ => show r.val = 0 + r.val; omega
    | ⟨1, _⟩ => show k.val = 0 + k.val; omega)
  have hl := extractStridedSlice_apply ![0, 1024] (first x0 w1 x2) slices_S256x2048_o0_1024_S256x1024 (ix2 r k) (ix2 r (high k)) (fun b => by
    match b with
    | ⟨0, _⟩ => show r.val = 0 + r.val; omega
    | ⟨1, _⟩ => rfl)
  rw [← hu, ← hl, ← gate_eq]
  rfl

/-- The layer of a block at row `r` and column `j`. -/
theorem layer_apply (x0 : S256x1024.Idx → Ideal .f32) (w1 : S1024x2048.Idx → Ideal .bf16) (x2 : S1x1x2048.Idx → Ideal .f32)
    (w2 : S1024x1024.Idx → Ideal .bf16) (x4 : S1x1x1024.Idx → Ideal .f32) (r : Fin 256) (j : Fin 1024) :
    layer x0 w1 x2 w2 x4 (ix2 r j)
      = FloatOps.addf (F := Ideal) (φ := .f32)
        (∑ k : Fin 1024, (gate (first x0 w1 x2 (ix2 r (low k))) (first x0 w1 x2 (ix2 r (high k))) : EReal) * w2 (ix2 k j)) (x4 (ix3 (0 : Fin 1) (0 : Fin 1) j)) := by
  refine (congrArg₂ (FloatOps.addf (F := Ideal) (φ := .f32)) (product_down (k0_pay5 (F := Ideal) x0 w1 x2) w2 r j) (bias_down x4 r j)).trans ?_
  refine congrArg (fun s => FloatOps.addf (F := Ideal) (φ := .f32) s _) (Finset.sum_congr rfl fun k _ => ?_)
  rw [hidden_apply]

end Cert.KernelIdeal.Experts

end
-- ==== Proof.ExpertsIdeal.Value.lean ====
module

public import proofs.«01_k».proof.Proof.ExpertsIdeal.Data
public import proofs.«01_k».proof.Proof.ExpertsIdeal.Layer
public import Idealize.ShloMosaic.Lib.Pipeline.ValueKit.Geometry

/-! What the result array ends holding: each block of 256 rows is its expert's layer of those rows, or zero. -/

set_option maxRecDepth 16384

@[expose] public noncomputable section

namespace Cert.KernelIdeal.Experts

open Cert.KernelIdeal Cert.KernelIdeal.Gen Cert.Experts
open Idealize.ShloMosaic Idealize.ShloMosaic.ValueIdx Idealize.ShloMosaic.TcCoe Idealize.SL.Sem
open Idealize.ShloMosaic.Pipeline (Dat Cfg Window)

variable (a : (pcfg0 (F := Ideal)).Adm)
variable (m : (ℓ : Loc nD τ sig) → Buf (Elt Ideal) ℓ) (ρ : Dev nD → PrngReg)

/-- The arrays as the launch finds them, in their literal shapes. -/
abbrev arrX (c : Dev nD) : S76288x1024.Idx → Ideal .f32 := m ((c : Thread nD τ).loc main_arg2)
abbrev arrG (c : Dev nD) : S32x1024x2048.Idx → Ideal .f32 := m ((c : Thread nD τ).loc main_arg3)
abbrev arrGb (c : Dev nD) : S32x1x2048.Idx → Ideal .f32 := m ((c : Thread nD τ).loc main_arg4)
abbrev arrD (c : Dev nD) : S32x1024x1024.Idx → Ideal .f32 := m ((c : Thread nD τ).loc main_arg5)
abbrev arrDb (c : Dev nD) : S32x1x1024.Idx → Ideal .f32 := m ((c : Thread nD τ).loc main_arg6)

/-- Row `r` of block `t`, among all rows. -/
abbrev rowAt (t : Fin (cfgT a).N) (r : Fin 256) : Fin 76288 := ⟨t.val * 256 + r.val, Nat.lt_of_lt_of_le (rows_lt a t r) (by decide)⟩

/-- The first product of block `t`. -/
theorem first_block (c : Dev nD) (t : Fin (cfgT a).N) (r : Fin 256) (n : Fin 2048) :
    first (iblk a m ρ c (0 : Fin 6) t) (castUp (iblk a m ρ c (1 : Fin 6) t)) (iblk a m ρ c (2 : Fin 6) t) (ix2 r n)
      = up (arrX m c) (arrG m c) (arrGb m c) (expert a t) (rowAt a t r) n := by
  refine (first_apply _ _ _ r n).trans ?_
  unfold up
  refine congrArg₂ (FloatOps.addf (F := Ideal) (φ := .f32)) (Finset.sum_congr rfl fun k _ => congrArg₂ (fun x y : EReal => x * y) ?_ ?_) ?_
  · exact iblk0_apply a m ρ c t (ix2 r k)
  · exact iblk1_apply a m ρ c t (ix3 (0 : Fin 1) k n)
  · exact iblk2_apply a m ρ c t (ix3 (0 : Fin 1) (0 : Fin 1) n)

/-- The layer of block `t`. -/
theorem layer_block (c : Dev nD) (t : Fin (cfgT a).N) (r : Fin 256) (j : Fin 1024) :
    layer (iblk a m ρ c (0 : Fin 6) t) (castUp (iblk a m ρ c (1 : Fin 6) t)) (iblk a m ρ c (2 : Fin 6) t) (castDown (iblk a m ρ c (3 : Fin 6) t)) (iblk a m ρ c (4 : Fin 6) t) (ix2 r j)
      = down (arrX m c) (arrG m c) (arrGb m c) (arrD m c) (arrDb m c) (expert a t) (rowAt a t r) j := by
  refine (layer_apply _ _ _ _ _ r j).trans ?_
  unfold down
  refine congrArg₂ (FloatOps.addf (F := Ideal) (φ := .f32)) (Finset.sum_congr rfl fun k _ => congrArg₂ (fun x y : EReal => x * y) ?_ ?_) ?_
  · exact congrArg₂ gate (first_block a m ρ c t r (low k)) (first_block a m ρ c t r (high k))
  · exact iblk3_apply a m ρ c t (ix3 (0 : Fin 1) k j)
  · exact iblk4_apply a m ρ c t (ix3 (0 : Fin 1) (0 : Fin 1) j)

/-- A table word below 32 names itself. -/
theorem named_small (b : BitVec 32) (h : b.toNat < 32) : named b = ⟨b.toNat, h⟩ := by
  refine Fin.ext ?_
  show min b.toInt.toNat 31 = b.toNat
  have e : b.toInt = b.toNat := BitVec.toInt_eq_toNat_of_lt (by omega)
  rw [e]
  omega

theorem named_expert (t : Fin (cfgT a).N) : named (tabE a (tix a t)) = expert a t := named_small _ (expert_lt a t)

/-- The stored block of point `t` at row `r` and column `j`. -/
theorem oblk_apply (c : Dev nD) (t : Fin (cfgT a).N) (r : Fin 256) (j : Fin 1024) :
    oblk a m ρ c t (ix2 r j)
      = rowOut (arrX m c) (arrG m c) (arrGb m c) (arrD m c) (arrDb m c) (tabE a) (tabN a) ⟨t.val, Nat.lt_of_lt_of_eq t.isLt N_0⟩ (rowAt a t r) j := by
  have hw : wordN a = tabN a (ix1 (0 : Fin 1)) := by
    refine congrArg (tabN a) (funext fun b => ?_)
    fin_cases b
    exact Subsingleton.elim (α := Fin 1) _ _
  have hiff : Used a t ↔ (t.val : ℤ) < (tabN a (ix1 (0 : Fin 1))).toInt := by
    unfold Used
    rw [cond1_iff, hw]
    exact iff_of_eq (congrArg (· < _) (ofNat_toInt t))
  unfold oblk rowOut
  by_cases h : Used a t
  · rw [if_pos h, if_pos (hiff.mp h)]
    refine (layer_block a m ρ c t r j).trans ?_
    exact congrArg (fun e => down (arrX m c) (arrG m c) (arrGb m c) (arrD m c) (arrDb m c) e (rowAt a t r) j) (named_expert a t).symm
  · rw [if_neg h, if_neg (fun h' => h (hiff.mpr h'))]
    rfl

/-- Block `t`'s row `r` sits at row `256 t + r` of the result. -/
theorem emb5 (t : Fin (cfgT a).N) (r : Fin 256) (j : Fin 1024) :
    (((cfgT a).win (5 : Fin 6)).blk t).view.emb (ix2 r j) = (ix2 (⟨t.val * 256 + r.val, rows_lt a t r⟩ : Fin 75776) j : S75776x1024.Idx) := by
  refine funext fun b => Fin.ext ?_
  fin_cases b
  · show cc0_transform_5 (crd a t) 0 * 256 + 1 * r.val = t.val * 256 + r.val
    have h := index5 t
    rw [show cc0_transform_5 (crd a t) 0 = t.val from h, Nat.one_mul]
  · show 0 * 1024 + 1 * j.val = j.val
    omega

/-- Each row of the result lies in some block. -/
theorem covered (R : Fin 75776) (j : Fin 1024) :
    ∃ t : Fin (cfgT a).N, (ix2 R j : S75776x1024.Idx) ∈ (((cfgT a).win (5 : Fin 6)).blk t).view.set := by
  have hR := R.isLt
  have hN : (cfgT a).N = 296 := N_0
  have ht : R.val / 256 < (cfgT a).N := by rw [hN]; omega
  refine ⟨⟨R.val / 256, ht⟩, ?_⟩
  have hm := View.emb_mem_set (((cfgT a).win (5 : Fin 6)).blk ⟨R.val / 256, ht⟩).view (ix2 (⟨R.val % 256, by omega⟩ : Fin 256) j)
  have hi : (ix2 (⟨R.val / 256 * 256 + R.val % 256, by omega⟩ : Fin 75776) j : S75776x1024.Idx) = ix2 R j :=
    congrArg (fun q => (ix2 q j : S75776x1024.Idx)) (Fin.ext (show R.val / 256 * 256 + R.val % 256 = R.val by omega))
  exact ((emb5 a ⟨R.val / 256, ht⟩ ⟨R.val % 256, by omega⟩ j).trans hi) ▸ hm

/-- The result array ends holding the specified output. -/
theorem result_arr (c : Dev nD) :
    (dats a m ρ 0 c).arrAt (5 : Fin 6) (cfgT a).N = output (arrX m c) (arrG m c) (arrGb m c) (arrD m c) (arrDb m c) (tabE a) (tabN a) := by
  refine (dats a m ρ 0 c).arrAt_eq_of_emb (5 : Fin 6) _ (fun t hf y => ?_) (fun i => ?_)
  · obtain ⟨r, j, rfl⟩ : ∃ (r : Fin 256) (j : Fin 1024), y = (ix2 r j : S256x1024.Idx) :=
      ⟨y 0, y 1, funext fun b => by fin_cases b <;> rfl⟩
    rw [emb5 a t r j]
    show oblk a m ρ c t (ix2 r j) = _
    rw [oblk_apply]
    unfold output
    have h1 := rows_lt a t r
    have hr := r.isLt
    exact congrArg (fun q => rowOut (arrX m c) (arrG m c) (arrGb m c) (arrD m c) (arrDb m c) (tabE a) (tabN a) q (rowAt a t r) j)
      (Fin.ext (show t.val = (t.val * 256 + r.val) / 256 by omega))
  · have h0 : (i 0).val < 75776 := (i 0).isLt
    obtain ⟨t, ht⟩ := covered a ⟨(i 0).val, h0⟩ (i 1)
    refine ⟨t, flush5 a t, ?_⟩
    have hi : (ix2 (⟨(i 0).val, h0⟩ : Fin 75776) (i 1) : S75776x1024.Idx) = i := funext fun b => by fin_cases b <;> rfl
    exact hi ▸ ht

end Cert.KernelIdeal.Experts

end
-- ==== Proof.ExpertsBits.Scratch.lean ====
module

public import proofs.«01_k».proof.Proof.Gen.Kernel.Flash.Runs
public import Idealize.ShloMosaic.Lib.Pipeline.FrameBody
public import Idealize.ShloMosaic.Lib.Pipeline.Value
public import Idealize.ShloMosaic.Lib.ValueIdxCore
public import Idealize.ShloMosaic.Lib.Writes

/-! What a point leaves behind: the two scratch buffers hold the expert's weights narrowed, the output block is the
    expert's layer of the block of rows (a point in use) or zero (a point not in use). -/

set_option maxRecDepth 16384
set_option Elab.async false

@[expose] public noncomputable section

namespace Cert.Kernel.Experts

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The first product's weights of a block `x`, narrowed. -/
def castUp (x : S1x1024x2048.Idx → Elt Bits .f32) : S1024x2048.Idx → Elt Bits .bf16 :=
  fun y => FloatOps.truncf (F := Bits) (φ := .f32) .bf16 bitsLt_bf16_f32 (x (ix3 (0 : Fin 1) (y 0) (y 1)))
/-- The second product's weights of a block `x`, narrowed. -/
def castDown (x : S1x1024x1024.Idx → Elt Bits .f32) : S1024x1024.Idx → Elt Bits .bf16 :=
  fun y => FloatOps.truncf (F := Bits) (φ := .f32) .bf16 bitsLt_bf16_f32 (x (ix3 (0 : Fin 1) (y 0) (y 1)))

/-- A stored piece of 128 rows of the first product's weights is that part of them. -/
theorem piece_up (v : Memref sig .tc .vmem S1x1024x2048 .f32) (x : S1x1024x2048.Idx → Elt Bits .f32) (o : ℕ)
    (h : ∀ a, (![0, o, 0] : Fin 3 → ℕ) a + S1x128x2048.size a ≤ S1x1024x2048.size a)
    (h' : ∀ a, (![o, 0] : Fin 2 → ℕ) a + S128x2048.size a ≤ S1024x2048.size a)
    (j : (Rect.unit (s := S1024x2048) ![o, 0] S128x2048.size h').shape.Idx) :
    k0_pay3 (F := Bits) (View.readAt (Elt Bits) v.view (Rect.unit (s := S1x1024x2048) ![0, o, 0] S1x128x2048.size h).toLoadRect (v.view.rep x)) j
      = castUp x ((Rect.unit (s := S1024x2048) ![o, 0] S128x2048.size h').emb j) := by
  unfold k0_pay3 castUp
  rw [shapeCast_apply _ shapeCasts_S128x2048_S128x2048 j j rfl]
  show FloatOps.truncf .bf16 _ (shapeCast S128x2048 _ shapeCasts_S1x128x2048_S128x2048 j) = _
  rw [shapeCast_apply _ shapeCasts_S1x128x2048_S128x2048 j (ix3 (0 : Fin 1) (j 0) (j 1))
    (by rw [Shape.rowMajor_val_three, Shape.rowMajor_val_two]; simp [ix3]), View.readAt_apply, View.read_rep]
  congr 1
  refine congrArg x (funext fun a => Fin.ext ?_)
  fin_cases a <;> rfl

/-- A stored piece of 128 rows of the second product's weights is that part of them. -/
theorem piece_down (v : Memref sig .tc .vmem S1x1024x1024 .f32) (x : S1x1024x1024.Idx → Elt Bits .f32) (o : ℕ)
    (h : ∀ a, (![0, o, 0] : Fin 3 → ℕ) a + S1x128x1024.size a ≤ S1x1024x1024.size a)
    (h' : ∀ a, (![o, 0] : Fin 2 → ℕ) a + S128x1024.size a ≤ S1024x1024.size a)
    (j : (Rect.unit (s := S1024x1024) ![o, 0] S128x1024.size h').shape.Idx) :
    k0_pay4 (F := Bits) (View.readAt (Elt Bits) v.view (Rect.unit (s := S1x1024x1024) ![0, o, 0] S1x128x1024.size h).toLoadRect (v.view.rep x)) j
      = castDown x ((Rect.unit (s := S1024x1024) ![o, 0] S128x1024.size h').emb j) := by
  unfold k0_pay4 castDown
  rw [shapeCast_apply _ shapeCasts_S128x1024_S128x1024 j j rfl]
  show FloatOps.truncf .bf16 _ (shapeCast S128x1024 _ shapeCasts_S1x128x1024_S128x1024 j) = _
  rw [shapeCast_apply _ shapeCasts_S1x128x1024_S128x1024 j (ix3 (0 : Fin 1) (j 0) (j 1))
    (by rw [Shape.rowMajor_val_three, Shape.rowMajor_val_two]; simp [ix3]), View.readAt_apply, View.read_rep]
  congr 1
  refine congrArg x (funext fun a => Fin.ext ?_)
  fin_cases a <;> rfl

/-- The eight pieces agree with the narrowed weights. -/
theorem pieces_up (v : Memref sig .tc .vmem S1x1024x2048 .f32) (x : S1x1024x2048.Idx → Elt Bits .f32) :
    ∀ p ∈ kernelRun0_A.sl.HS0_8 v x, ∀ j : p.1.shape.Idx, p.2 j = castUp x (p.1.emb j) := by
  unfold kernelRun0_A.sl.HS0_8
  intro p hp
  simp only [List.mem_cons, List.not_mem_nil, or_false] at hp
  rcases hp with rfl | rfl | rfl | rfl | rfl | rfl | rfl | rfl <;> exact fun j => piece_up v x _ _ (by intro a; fin_cases a <;> decide) j

theorem pieces_down (v : Memref sig .tc .vmem S1x1024x1024 .f32) (x : S1x1024x1024.Idx → Elt Bits .f32) :
    ∀ p ∈ kernelRun0_A.sl.HS1_8 v x, ∀ j : p.1.shape.Idx, p.2 j = castDown x (p.1.emb j) := by
  unfold kernelRun0_A.sl.HS1_8
  intro p hp
  simp only [List.mem_cons, List.not_mem_nil, or_false] at hp
  rcases hp with rfl | rfl | rfl | rfl | rfl | rfl | rfl | rfl <;> exact fun j => piece_down v x _ _ (by intro a; fin_cases a <;> decide) j

/-- Each row is in one of eight pieces of 128 rows. -/
theorem mem_rows {n : ℕ} (o : ℕ) (y : (⟨2, ![1024, n]⟩ : Shape).Idx)
    (h : ∀ a, (![o, 0] : Fin 2 → ℕ) a + (![128, n] : Fin 2 → ℕ) a ≤ (⟨2, ![1024, n]⟩ : Shape).size a)
    (h1 : o ≤ (y 0).val) (h2 : (y 0).val < o + 128) :
    y ∈ (Rect.unit (s := ⟨2, ![1024, n]⟩) ![o, 0] ![128, n] h).set := by
  rw [Rect.mem_set_unit]
  intro a
  have := (y 1).isLt
  fin_cases a
  · exact ⟨h1, h2⟩
  · exact ⟨Nat.zero_le _, by simpa using this⟩

theorem cover_up (v : Memref sig .tc .vmem S1x1024x2048 .f32) (x : S1x1024x2048.Idx → Elt Bits .f32) (y : S1024x2048.Idx) :
    ∃ p ∈ kernelRun0_A.sl.HS0_8 v x, y ∈ p.1.set := by
  unfold kernelRun0_A.sl.HS0_8
  have hy : (y 0).val < 1024 := (y 0).isLt
  simp only [List.exists_mem_cons_iff, List.not_mem_nil, false_and, exists_false, or_false]
  rcases (show (896 ≤ (y 0).val ∧ (y 0).val < 896 + 128) ∨ (768 ≤ (y 0).val ∧ (y 0).val < 768 + 128) ∨ (640 ≤ (y 0).val ∧ (y 0).val < 640 + 128)
      ∨ (512 ≤ (y 0).val ∧ (y 0).val < 512 + 128) ∨ (384 ≤ (y 0).val ∧ (y 0).val < 384 + 128) ∨ (256 ≤ (y 0).val ∧ (y 0).val < 256 + 128)
      ∨ (128 ≤ (y 0).val ∧ (y 0).val < 128 + 128) ∨ (0 ≤ (y 0).val ∧ (y 0).val < 0 + 128) by omega)
    with h | h | h | h | h | h | h | h
  · exact .inl (mem_rows _ y _ h.1 h.2)
  · exact .inr (.inl (mem_rows _ y _ h.1 h.2))
  · exact .inr (.inr (.inl (mem_rows _ y _ h.1 h.2)))
  · exact .inr (.inr (.inr (.inl (mem_rows _ y _ h.1 h.2))))
  · exact .inr (.inr (.inr (.inr (.inl (mem_rows _ y _ h.1 h.2)))))
  · exact .inr (.inr (.inr (.inr (.inr (.inl (mem_rows _ y _ h.1 h.2))))))
  · exact .inr (.inr (.inr (.inr (.inr (.inr (.inl (mem_rows _ y _ h.1 h.2)))))))
  · exact .inr (.inr (.inr (.inr (.inr (.inr (.inr (mem_rows _ y _ h.1 h.2)))))))

theorem cover_down (v : Memref sig .tc .vmem S1x1024x1024 .f32) (x : S1x1024x1024.Idx → Elt Bits .f32) (y : S1024x1024.Idx) :
    ∃ p ∈ kernelRun0_A.sl.HS1_8 v x, y ∈ p.1.set := by
  unfold kernelRun0_A.sl.HS1_8
  have hy : (y 0).val < 1024 := (y 0).isLt
  simp only [List.exists_mem_cons_iff, List.not_mem_nil, false_and, exists_false, or_false]
  rcases (show (896 ≤ (y 0).val ∧ (y 0).val < 896 + 128) ∨ (768 ≤ (y 0).val ∧ (y 0).val < 768 + 128) ∨ (640 ≤ (y 0).val ∧ (y 0).val < 640 + 128)
      ∨ (512 ≤ (y 0).val ∧ (y 0).val < 512 + 128) ∨ (384 ≤ (y 0).val ∧ (y 0).val < 384 + 128) ∨ (256 ≤ (y 0).val ∧ (y 0).val < 256 + 128)
      ∨ (128 ≤ (y 0).val ∧ (y 0).val < 128 + 128) ∨ (0 ≤ (y 0).val ∧ (y 0).val < 0 + 128) by omega)
    with h | h | h | h | h | h | h | h
  · exact .inl (mem_rows _ y _ h.1 h.2)
  · exact .inr (.inl (mem_rows _ y _ h.1 h.2))
  · exact .inr (.inr (.inl (mem_rows _ y _ h.1 h.2)))
  · exact .inr (.inr (.inr (.inl (mem_rows _ y _ h.1 h.2))))
  · exact .inr (.inr (.inr (.inr (.inl (mem_rows _ y _ h.1 h.2)))))
  · exact .inr (.inr (.inr (.inr (.inr (.inl (mem_rows _ y _ h.1 h.2))))))
  · exact .inr (.inr (.inr (.inr (.inr (.inr (.inl (mem_rows _ y _ h.1 h.2)))))))
  · exact .inr (.inr (.inr (.inr (.inr (.inr (.inr (mem_rows _ y _ h.1 h.2)))))))

/-- After the eight stores the scratch buffers hold the narrowed weights. -/
theorem scratch_up (w : View sig .tc .vmem S1024x2048 .bf16) (v : Memref sig .tc .vmem S1x1024x2048 .f32) (x : S1x1024x2048.Idx → Elt Bits .f32) (f) :
    w.read (Elt Bits) (w.writes (Elt Bits) f (kernelRun0_A.sl.HS0_8 v x)) = castUp x :=
  funext fun y => View.read_writes_apply_of_pieces w f (castUp x) _ (pieces_up v x) y (cover_up v x y)
theorem scratch_down (w : View sig .tc .vmem S1024x1024 .bf16) (v : Memref sig .tc .vmem S1x1024x1024 .f32) (x : S1x1024x1024.Idx → Elt Bits .f32) (f) :
    w.read (Elt Bits) (w.writes (Elt Bits) f (kernelRun0_A.sl.HS1_8 v x)) = castDown x :=
  funext fun y => View.read_writes_apply_of_pieces w f (castDown x) _ (pieces_down v x) y (cover_down v x y)

/-- A load of a whole view reads what the view reads. -/
theorem readAt_full {s : Shape} {e : EltTy} {sp : Space} (v : View sig .tc sp s e) (f) (o : Fin s.rank → ℕ) (ho : o = fun _ => 0)
    (h : ∀ a, o a + s.size a ≤ s.size a) :
    View.readAt (Elt Bits) v (Rect.unit o s.size h).toLoadRect f = v.read (Elt Bits) f := by
  subst ho
  funext y
  rw [View.readAt_apply]
  refine congrArg _ (funext fun a => Fin.ext ?_)
  simp [LoadRect.idx, Rect.toLoadRect]

/-- The block of a point in use: the layer of the rows `x0` under the narrowed weights `w1`, `w2` and the biases `x2`, `x4`. -/
def layer (x0 : S256x1024.Idx → Elt Bits .f32) (w1 : S1024x2048.Idx → Elt Bits .bf16) (x2 : S1x1x2048.Idx → Elt Bits .f32)
    (w2 : S1024x1024.Idx → Elt Bits .bf16) (x4 : S1x1x1024.Idx → Elt Bits .f32) : S256x1024.Idx → Elt Bits .f32 :=
  k0_pay1 (F := Bits) (k0_pay5 (F := Bits) x0 w1 x2) w2 x4

/-- One piece that is the whole block reads as its payload. -/
theorem read_one (v : View sig .tc .vmem S256x1024 .f32) (f) (h) (w : S256x1024.Idx → Elt Bits .f32) :
    v.read (Elt Bits) (v.writes (Elt Bits) f [⟨Rect.unit (s := S256x1024) ![0, 0] S256x1024.size h, w⟩]) = w := by
  funext y
  have hy : (Rect.unit (s := S256x1024) ![0, 0] S256x1024.size h).emb y = y := by
    refine funext fun a => Fin.ext ?_
    show (![0, 0] : Fin 2 → ℕ) a + 1 * (y a).val = (y a).val
    have h0 : (![0, 0] : Fin 2 → ℕ) a = 0 := by fin_cases a <;> rfl
    omega
  have := View.read_writes_cons_emb (Val := Elt Bits) v f (Rect.unit (s := S256x1024) ![0, 0] S256x1024.size h) w [] y
  rw [hy] at this
  exact this

end Cert.Kernel.Experts

end
-- ==== Proof.ExpertsBits.Point.lean ====
module

public import proofs.«01_k».proof.Proof.Gen.Kernel.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.WordCmp

/-! The experts' grid at ANY admissible tables: a point's coordinates, staging buffers and blocks, the two conditions
    its body branches on, and the schedule of the output window. -/

set_option maxRecDepth 16384
set_option Elab.async false

@[expose] public noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (a : (pcfg0 (F := Bits)).Adm)

/-- The pipeline at the tables `a`. -/
abbrev cfgT : Pipeline.Cfg sig Λ₀ := cfg0 (F := Bits) a
abbrev pcsT : Fin 1 → Pipeline.Cfg sig Λ₀ := Pipeline.pin (pcfgs (F := Bits)) fun _ => a
/-- The table of experts, one word for each row block. -/
abbrev tabE : S296.Idx → Elt Bits .i32 := a.1 0
/-- The number of row blocks in use. -/
abbrev tabN : S1.Idx → Elt Bits .i32 := a.1 1

/-- Point `t`'s coordinates. -/
abbrev crd (t : Fin (cfgT a).N) : (cfgT a).grid.Coords := (cfgT a).grid.coords t

abbrev st0 (t : Fin (cfgT a).N) : Memref sig .tc .vmem S256x1024 .f32 := spec0_0.stage ((cfgT a).slots t (0 : Fin 6))
abbrev wh0 (t : Fin (cfgT a).N) : (st0 a t).IsWhole := hstage0_0 (((cfgT a).slots t (0 : Fin 6)).cast nbuf0_0)
abbrev st1 (t : Fin (cfgT a).N) : Memref sig .tc .vmem S1x1024x2048 .f32 := spec0_1.stage ((cfgT a).slots t (1 : Fin 6))
abbrev wh1 (t : Fin (cfgT a).N) : (st1 a t).IsWhole := hstage0_1 (((cfgT a).slots t (1 : Fin 6)).cast nbuf0_1)
abbrev st2 (t : Fin (cfgT a).N) : Memref sig .tc .vmem S1x1x2048 .f32 := spec0_2.stage ((cfgT a).slots t (2 : Fin 6))
abbrev wh2 (t : Fin (cfgT a).N) : (st2 a t).IsWhole := hstage0_2 (((cfgT a).slots t (2 : Fin 6)).cast nbuf0_2)
abbrev st3 (t : Fin (cfgT a).N) : Memref sig .tc .vmem S1x1024x1024 .f32 := spec0_3.stage ((cfgT a).slots t (3 : Fin 6))
abbrev wh3 (t : Fin (cfgT a).N) : (st3 a t).IsWhole := hstage0_3 (((cfgT a).slots t (3 : Fin 6)).cast nbuf0_3)
abbrev st4 (t : Fin (cfgT a).N) : Memref sig .tc .vmem S1x1x1024 .f32 := spec0_4.stage ((cfgT a).slots t (4 : Fin 6))
abbrev wh4 (t : Fin (cfgT a).N) : (st4 a t).IsWhole := hstage0_4 (((cfgT a).slots t (4 : Fin 6)).cast nbuf0_4)
abbrev st5 (t : Fin (cfgT a).N) : Memref sig .tc .vmem S256x1024 .f32 := spec0_5.stage ((cfgT a).slots t (5 : Fin 6))
abbrev wh5 (t : Fin (cfgT a).N) : (st5 a t).IsWhole := hstage0_5 (((cfgT a).slots t (5 : Fin 6)).cast nbuf0_5)

/-- The number of blocks in use, as the body reads it. -/
abbrev wordN : Elt Bits .i32 :=
  View.readAt (Elt Bits) (tbM0_1).view (Rect.unit (s := S1) ![0] S1.size inb_S1_S1_0).toLoadRect (tabN a) (Shape.Idx.first (numel1_S1.symm ▸ Nat.one_pos))
/-- The expert of the block at `i`, and the expert of the block before it, as the body reads them. -/
abbrev wordE (i : grid0.Coords) : Elt Bits .i32 :=
  View.readAt (Elt Bits) (tbM0_0).view (Rect.unit (s := S296) (k0_off3 i) S1.size (k0_off3_inb i)).toLoadRect (tabE a) (Shape.Idx.first (numel1_S1.symm ▸ Nat.one_pos))
abbrev wordP (i : grid0.Coords) : Elt Bits .i32 :=
  View.readAt (Elt Bits) (tbM0_0).view (Rect.unit (s := S296) (k0_off2 i) S1.size (k0_off2_inb i)).toLoadRect (tabE a) (Shape.Idx.first (numel1_S1.symm ▸ Nat.one_pos))

/-- The block at `t` is in use. -/
abbrev Used (t : Fin (cfgT a).N) : Prop := k0_cond1 (crd a t) (wordN a) = 1#1
/-- The block at `t` is the first one, or its expert is another one than its predecessor's. -/
abbrev Changed (t : Fin (cfgT a).N) : Prop :=
  (Scalar.cmpi .ne (Scalar.extui (Scalar.ori (Scalar.cmpi .eq (BitVec.ofNat 32 ((crd a t) 0).val) 0#32)
    (Scalar.cmpi .ne (wordE a (crd a t)) (wordP a (crd a t))))) 0#32) = 1#1

/-- A branch word that widens a one-bit word is 1 exactly where that bit is. -/
theorem widened_iff : ∀ b : BitVec 1, Scalar.cmpi .ne (Scalar.extui b : BitVec 32) 0#32 = 1#1 ↔ b = 1#1 := by decide

/-- A block is in use when its number is below the count, as signed words. -/
theorem cond1_iff (i : grid0.Coords) (v : BitVec 32) :
    k0_cond1 i v = 1#1 ↔ (BitVec.ofNat 32 (i 0).val).toInt < v.toInt := by
  unfold k0_cond1
  rw [widened_iff]
  show IntOp.cmpi .slt _ _ = 1#1 ↔ _
  rw [WordCmp.cmpi_slt_eq]
  by_cases h : (BitVec.ofNat 32 (i 0).val).toInt < v.toInt
  · simp [h]
  · simp [h]

/-- The zero branch is taken exactly where the block is not in use. -/
theorem cond3_iff (i : grid0.Coords) (v : BitVec 32) : k0_cond3 i v = 1#1 ↔ ¬ k0_cond1 i v = 1#1 := by
  rw [cond1_iff]
  unfold k0_cond3
  rw [widened_iff]
  show IntOp.cmpi .sge _ _ = 1#1 ↔ _
  rw [WordCmp.cmpi_sge_eq]
  by_cases h : v.toInt ≤ (BitVec.ofNat 32 (i 0).val).toInt
  · simp [h]
  · simp [h]

/-- The output window is stored at each point. -/
theorem idle5 (t : Fin (cfgT a).N) : (cfgT a).idle (5 : Fin 6) ((cfgT a).grid.coords t) = false := by
  show (!(k0_cond1 (crd a t) (a.1.atD 1 ![0]) == 1#1) && !(k0_cond3 (crd a t) (a.1.atD 1 ![0]) == 1#1)) = false
  by_cases h : k0_cond1 (crd a t) (a.1.atD 1 ![0]) = 1#1
  · simp [h]
  · simp [(cond3_iff _ _).mpr h]

/-- The output window is written back at each point: each point has a block of its own. -/
theorem flushOf5 : ∀ t : Fin grid0.N, Window.flushOf grid0 true cc0_transform_5 t = true := by decide +kernel
theorem flush5 (t : Fin (cfgT a).N) : ((cfgT a).win (5 : Fin 6)).flush t = true := flushOf5 t

/-- So its buffer holds nothing of use when a point begins. -/
theorem fresh5 (t : Fin (cfgT a).N) : (cfgT a).fresh (5 : Fin 6) t.val = true :=
  Pipeline.Cfg.fresh_tab (cfgT a) (5 : Fin 6) (fun _ => true) rfl
    (fun t => by rw [flush5 a t, Bool.true_or]) t.val (Nat.le_of_lt t.isLt)

variable (m : (ℓ : Loc nD τ sig) → Buf (Elt Bits) ℓ) (ρ : Dev nD → PrngReg)

/-- Window `w`'s block at point `t`, read off its array at the start. -/
def iblk (c : Dev nD) (w : Fin (cfgT a).W) (t : Fin (cfgT a).N) : (((cfgT a).win w).xblock (crd a t)).Idx → Elt Bits ((cfgT a).win w).elt :=
  (((cfgT a).win w).blk t).view.read (Elt Bits) ((s₀ m ρ).mem (((cfgT a).win w).arr.view.loc (c : Thread nD τ)))

/-- The point's number is its coordinate. -/
theorem crd_val : ∀ t : Fin grid0.N, ((grid0.coords t) 0).val = t.val := by decide +kernel

end Cert.Kernel.Experts

end
-- ==== Proof.ExpertsBits.Data.lean ====
module

public import proofs.«01_k».proof.Proof.ExpertsBits.Scratch
public import proofs.«01_k».proof.Proof.ExpertsBits.Blocks
public import Idealize.ShloMosaic.Lib.Pipeline.TableIdle

/-! What the pipeline holds between its points: the scratch buffers hold the weights of the last point's expert once
    that point is in use; the output block of a point is the layer of its rows, or zero. -/

set_option maxRecDepth 16384
set_option Elab.async false

@[expose] public noncomputable section

namespace Cert.Kernel.Experts

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The algebra's element of the rounds. -/
abbrev EP : Emb (UR sig nD τ) 𝕄 := emb₁

variable (a : (pcfg0 (F := Bits)).Adm)
variable (m : (ℓ : Loc nD τ sig) → Buf (Elt Bits) ℓ) (ρ : Dev nD → PrngReg)

/-- After `k` points, with the last one in use, the scratch buffers hold its expert's weights, narrowed. -/
def Held (c : Dev nD) (k : ℕ) (f0 : Buf (Elt Bits) ((c : Thread nD τ).loc cc0_scratch0)) (f1 : Buf (Elt Bits) ((c : Thread nD τ).loc cc0_scratch1)) : Prop :=
  ∀ s : Fin (cfgT a).N, k = s.val + 1 → Used a s →
    scM0_0.view.read (Elt Bits) f0 = castUp (iblk a m ρ c (1 : Fin 6) s) ∧ scM0_1.view.read (Elt Bits) f1 = castDown (iblk a m ρ c (3 : Fin 6) s)

/-- The invariant before point `t`: the scratch buffers, holding what `Held` says, and half of each table. -/
def Phi (c : Dev nD) (t : Fin ((cfgT a).N + 1)) : sProp 𝕄 :=
  iprop((∃ f0 f1, ⌜Held a m ρ c t.val f0 f1⌝ ∗ (scM0_0.view.loc (c : Thread nD τ) ↦{fullShare} f0) ∗ (scM0_1.view.loc (c : Thread nD τ) ↦{fullShare} f1))
    ∗ (tbM0_0.view.loc (c : Thread nD τ) ↦{fullShare.right} tabE a) ∗ (tbM0_1.view.loc (c : Thread nD τ) ↦{fullShare.right} tabN a))

/-- The output block of point `t`. -/
def oblk (c : Dev nD) (t : Fin (cfgT a).N) : S256x1024.Idx → Elt Bits .f32 :=
  if Used a t then
    layer (iblk a m ρ c (0 : Fin 6) t) (castUp (iblk a m ρ c (1 : Fin 6) t)) (iblk a m ρ c (2 : Fin 6) t) (castDown (iblk a m ρ c (3 : Fin 6) t)) (iblk a m ρ c (4 : Fin 6) t)
  else k0_pay2 (F := Bits)

/-- The proof data of the one pipeline on core `c`. -/
def dats (_ : Fin 1) (c : Dev nD) : Dat τ (Elt Bits) Unit ℕ (UR sig nD τ) ℕ (cfgT a) c where
  A w := (s₀ m ρ).mem (((cfgT a).win w).arr.view.loc (c : Thread nD τ))
  after w t := match w with
    | ⟨0, _⟩ => iblk a m ρ c (0 : Fin 6) t
    | ⟨1, _⟩ => iblk a m ρ c (1 : Fin 6) t
    | ⟨2, _⟩ => iblk a m ρ c (2 : Fin 6) t
    | ⟨3, _⟩ => iblk a m ρ c (3 : Fin 6) t
    | ⟨4, _⟩ => iblk a m ρ c (4 : Fin 6) t
    | ⟨5, _⟩ => oblk a m ρ c t
  Φ t := Phi a m ρ c t
  q _ := fullShare
  owed _ := 0

theorem after0 (c : Dev nD) (t : Fin (cfgT a).N) : (dats a m ρ 0 c).after (0 : Fin 6) t = iblk a m ρ c (0 : Fin 6) t := rfl
theorem after1 (c : Dev nD) (t : Fin (cfgT a).N) : (dats a m ρ 0 c).after (1 : Fin 6) t = iblk a m ρ c (1 : Fin 6) t := rfl
theorem after2 (c : Dev nD) (t : Fin (cfgT a).N) : (dats a m ρ 0 c).after (2 : Fin 6) t = iblk a m ρ c (2 : Fin 6) t := rfl
theorem after3 (c : Dev nD) (t : Fin (cfgT a).N) : (dats a m ρ 0 c).after (3 : Fin 6) t = iblk a m ρ c (3 : Fin 6) t := rfl
theorem after4 (c : Dev nD) (t : Fin (cfgT a).N) : (dats a m ρ 0 c).after (4 : Fin 6) t = iblk a m ρ c (4 : Fin 6) t := rfl
theorem after5 (c : Dev nD) (t : Fin (cfgT a).N) : (dats a m ρ 0 c).after (5 : Fin 6) t = oblk a m ρ c t := rfl

/-- An input window's buffer holds its block when a point begins. -/
theorem before0 (c : Dev nD) (t : Fin (cfgT a).N) (d) : (dats a m ρ 0 c).before (0 : Fin 6) t d = iblk a m ρ c (0 : Fin 6) t :=
  ((dats a m ρ 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin (cfgT a).N) (d) : (dats a m ρ 0 c).before (1 : Fin 6) t d = iblk a m ρ c (1 : Fin 6) t :=
  ((dats a m ρ 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin (cfgT a).N) (d) : (dats a m ρ 0 c).before (2 : Fin 6) t d = iblk a m ρ c (2 : Fin 6) t :=
  ((dats a m ρ 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin (cfgT a).N) (d) : (dats a m ρ 0 c).before (3 : Fin 6) t d = iblk a m ρ c (3 : Fin 6) t :=
  ((dats a m ρ 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin (cfgT a).N) (d) : (dats a m ρ 0 c).before (4 : Fin 6) t d = iblk a m ρ c (4 : Fin 6) t :=
  ((dats a m ρ 0 c).before_in_eq_fetched (4 : Fin 6) rfl (fun _ => rfl) (fun _ _ _ => rfl) (fun t => by rw [after4]; unfold Dat.blockOf iblk; rfl) t d).trans
    (by unfold Dat.fetched Dat.blockOf iblk; rfl)

/-- The output window's buffer holds anything when a point begins. -/
theorem before5 (c : Dev nD) (t : Fin (cfgT a).N) (d) : (dats a m ρ 0 c).before (5 : Fin 6) t d = d := by
  rw [(dats a m ρ 0 c).before_out_traj (5 : Fin 6) rfl (fun _ _ => rfl)
    (fun t _ hi _ => by rw [idle5 a t] at hi; exact absurd hi (by decide)) t.val t rfl d, fresh5 a t]
  rfl

theorem zero2 : (![0, 0] : Fin 2 → ℕ) = fun _ => 0 := by funext a; fin_cases a <;> rfl
theorem zero3 : (![0, 0, 0] : Fin 3 → ℕ) = fun _ => 0 := by funext a; fin_cases a <;> rfl

/-! ### The stored block of each kind of point -/

/-- A point in use with a new expert stores the layer of its rows. -/
theorem out_changed (c : Dev nD) (t : Fin (cfgT a).N) (f) (h1 hc1 h3) (hu : Used a t) :
    (st5 a t).view.read (Elt Bits) ((st5 a t).view.writes (Elt Bits) f
      (kernelRun0_A c (crd a t) (st0 a t) (wh0 a t) (st1 a t) (wh1 a t) (st2 a t) (wh2 a t) (st3 a t) (wh3 a t) (st4 a t) (wh4 a t) (st5 a t) (wh5 a t) (tabE a) (tabN a) (iblk a m ρ c (0 : Fin 6) t) (iblk a m ρ c (1 : Fin 6) t) (iblk a m ρ c (2 : Fin 6) t) (iblk a m ρ c (3 : Fin 6) t) (iblk a m ρ c (4 : Fin 6) t) h1 hc1 h3).1) = oblk a m ρ c t := by
  show (st5 a t).view.read (Elt Bits) ((st5 a t).view.writes (Elt Bits) f
    (kernelRun0_A.sl.HO5_1 (st0 a t) (st1 a t) (st2 a t) (st3 a t) (st4 a t) (iblk a m ρ c (0 : Fin 6) t) (iblk a m ρ c (1 : Fin 6) t) (iblk a m ρ c (2 : Fin 6) t) (iblk a m ρ c (3 : Fin 6) t) (iblk a m ρ c (4 : Fin 6) t))) = _
  unfold kernelRun0_A.sl.HO5_1
  rw [read_one]
  unfold kernelRun0_A.sl.r_3 kernelRun0_A.sl.v21 kernelRun0_A.sl.v47 View.readCov
  rw [readAt_full _ _ _ zero2, readAt_full _ _ _ zero2, readAt_full _ _ _ zero3, readAt_full _ _ _ zero2, readAt_full _ _ _ zero3,
    scratch_up, scratch_down, View.read_rep, View.read_rep, View.read_rep]
  unfold oblk; rw [if_pos hu]; rfl

/-- A point in use with its predecessor's expert stores the layer of its rows, its weights being in the scratch buffers. -/
theorem out_same (c : Dev nD) (t : Fin (cfgT a).N) (f xa0 xa1) (h1 hc1 h3) (hu : Used a t)
    (e0 : scM0_0.view.read (Elt Bits) xa0 = castUp (iblk a m ρ c (1 : Fin 6) t)) (e1 : scM0_1.view.read (Elt Bits) xa1 = castDown (iblk a m ρ c (3 : Fin 6) t)) :
    (st5 a t).view.read (Elt Bits) ((st5 a t).view.writes (Elt Bits) f
      (kernelRun0_B c (crd a t) (st0 a t) (wh0 a t) (st1 a t) (wh1 a t) (st2 a t) (wh2 a t) (st3 a t) (wh3 a t) (st4 a t) (wh4 a t) (st5 a t) (wh5 a t) (tabE a) (tabN a) (iblk a m ρ c (0 : Fin 6) t) (iblk a m ρ c (1 : Fin 6) t) (iblk a m ρ c (2 : Fin 6) t) (iblk a m ρ c (3 : Fin 6) t) (iblk a m ρ c (4 : Fin 6) t) xa0 xa1 h1 hc1 h3).1) = oblk a m ρ c t := by
  show (st5 a t).view.read (Elt Bits) ((st5 a t).view.writes (Elt Bits) f
    (kernelRun0_B.sl.HO5_1 c (st0 a t) (st2 a t) (st4 a t) (iblk a m ρ c (0 : Fin 6) t) (iblk a m ρ c (2 : Fin 6) t) (iblk a m ρ c (4 : Fin 6) t) xa0 xa1)) = _
  unfold kernelRun0_B.sl.HO5_1
  rw [read_one]
  unfold kernelRun0_B.sl.r_3
  rw [readAt_full _ _ _ zero2, readAt_full _ _ _ zero2, readAt_full _ _ _ zero3, readAt_full _ _ _ zero2, readAt_full _ _ _ zero3,
    e0, e1, View.read_rep, View.read_rep, View.read_rep]
  unfold oblk; rw [if_pos hu]; rfl

/-- A point not in use stores zero. -/
theorem out_unused (c : Dev nD) (t : Fin (cfgT a).N) (f xa0 xa1) (h1 h3) (hu : ¬ Used a t) :
    (st5 a t).view.read (Elt Bits) ((st5 a t).view.writes (Elt Bits) f
      (kernelRun0_C c (crd a t) (st0 a t) (wh0 a t) (st1 a t) (wh1 a t) (st2 a t) (wh2 a t) (st3 a t) (wh3 a t) (st4 a t) (wh4 a t) (st5 a t) (wh5 a t) (tabE a) (tabN a) (iblk a m ρ c (0 : Fin 6) t) (iblk a m ρ c (1 : Fin 6) t) (iblk a m ρ c (2 : Fin 6) t) (iblk a m ρ c (3 : Fin 6) t) (iblk a m ρ c (4 : Fin 6) t) xa0 xa1 h1 h3).1) = oblk a m ρ c t := by
  show (st5 a t).view.read (Elt Bits) ((st5 a t).view.writes (Elt Bits) f kernelRun0_C.sl.HO5_1) = _
  unfold kernelRun0_C.sl.HO5_1
  rw [read_one]
  unfold oblk; rw [if_neg hu]

end Cert.Kernel.Experts

end
-- ==== Proof.ExpertsBits.Launch.lean ====
module

public import proofs.«01_k».proof.Proof.ExpertsBits.Body
public import Idealize.ShloMosaic.Lib.Pipeline.Quiescent
public import Idealize.ShloMosaic.Lib.Claim
public import Idealize.ShloMosaic.Lib.Pipeline.Kit
public import Idealize.ShloMosaic.Adequacy
public import Idealize.ShloMosaic.Init

/-! The launch of the pipeline at any tables whose blocks lie in their arrays, and what it leaves: the arguments unchanged,
    the result at what the pipeline's data say. -/

set_option maxRecDepth 16384
set_option Elab.async false

@[expose] public noncomputable section

namespace Cert.Kernel.Experts

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (a : (pcfg0 (F := Bits)).Adm)
variable (m : (ℓ : Loc nD τ sig) → Buf (Elt Bits) ℓ) (ρ : Dev nD → PrngReg)

/-- The launch memory holds the tables `a`. -/
def Pinned : Prop := (∀ c : Dev nD, m ((c : Thread nD τ).loc main_arg0) = tabE a) ∧ ∀ c : Dev nD, m ((c : Thread nD τ).loc main_arg1) = tabN a

/-- The rounds library's launch element. -/
def u₀ : UR sig nD τ :=
  initOf (Pipeline.cells (pcsT a) ((launch0 (F := Bits)).cellOf_inj fun _ => a))
    (Pipeline.launchToks (pcsT a) ((launch0 (F := Bits)).cellOf_inj fun _ => a))

theorem share_eq (c : Dev nD) (w : Fin (cfgT a).W) : (dats a m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point, from the tables and the scratch buffers; -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩⟩
  isplitl [HS0 HS1]
  · iexists a0; iexists a1; isplitr; swap
    · isplitl [HS0]; · iexact HS0
      iexact HS1
    · ipureintro; intro s hs; exact absurd hs (Nat.succ_ne_zero _).symm
  isplitl [HT0]
  · iexact HT0
  iexact HT1

/-- after the last point it gives the scratch buffers back. -/
theorem phiN_exit (c : Dev nD) : (dats a m ρ 0 c).Φ (Fin.last (cfgT a).N) ⊢ iprop(BI.emp ∗ Pipeline.scopedRest spec0 c) := by
  rw [scopedRest0_eq, show (dats a m ρ 0 c).Φ (Fin.last (cfgT a).N) = Phi a m ρ c (Fin.last _) from rfl]
  unfold Phi
  iintro ⟨⟨%a0, %a1, -, HS0, HS1⟩, -, -⟩
  isplitr; · iempintro
  isplitl [HS0]
  · iexists a0; iexact HS0
  iexists a1; iexact HS1

/-- The physical post: every array at what the library computes, every table at what the pipeline ran at. -/
def QC : PUnit × MemSt nD τ sig (Elt Bits) → Prop := fun r =>
  ∀ c : Dev nD, (∀ w : Fin (cfgT a).W, r.2.mem (((cfgT a).win w).arr.view.loc (c : Thread nD τ)) = (dats a m ρ 0 c).arrAt w (cfgT a).N)
    ∧ ∀ j, r.2.mem ((c : Thread nD τ).loc (pre0.ref j)) = a.1 j

theorem V_pre (hp : Pinned a m) (c : Dev nD) (j : Fin 2) : m ((c : Thread nD τ).loc (pre0.ref j)) = a.1 j := by
  fin_cases j
  · exact hp.1 c
  · exact hp.2 c

set_option backward.isDefEq.respectTransparency.types false in
set_option maxHeartbeats 4000000 in
/-- From a launch memory that holds the tables `a`, each execution terminates with every array at what the pipeline's data
    say and every semaphore counter at zero. -/
theorem run_main_quiescent (hp : Pinned a m) : θ_run (defs (F := Bits)) (onTc (τ := τ) (main (F := Bits))) (s₀ m ρ) (fun r => QC a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre EP defs₀ Variants.none m ρ main
    (hbody := fun c => (body_obligation a m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsT a) (dats a m ρ) 0 (launch0 (F := Bits)).win.arr_inj c (launch0 (F := Bits)).arr_whole
      (share_eq a m ρ c) _ _ fun _ => rfl)
    (hpf := V_pre a m hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned a m) : θ_run (defs (F := Bits)) (onTc (τ := τ) (main (F := Bits))) (s₀ m ρ) (QC a m ρ) :=
  (θ_run defs _ _).mono (fun _ h => h.1) (run_main_quiescent a m ρ hp)

/-- `frame` without the counters: the argument arrays end unchanged. -/
theorem unchanged (hp : Pinned a m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2 c).symm, ((h c).1 (0 : Fin 6)).trans ((dats a m ρ 0 c).arrAt_in (0 : Fin 6) rfl _), ((h c).1 (1 : Fin 6)).trans ((dats a m ρ 0 c).arrAt_in (1 : Fin 6) rfl _), ((h c).1 (2 : Fin 6)).trans ((dats a m ρ 0 c).arrAt_in (2 : Fin 6) rfl _), ((h c).1 (3 : Fin 6)).trans ((dats a m ρ 0 c).arrAt_in (3 : Fin 6) rfl _), ((h c).1 (4 : Fin 6)).trans ((dats a m ρ 0 c).arrAt_in (4 : Fin 6) rfl _)⟩) (run_main a m ρ hp)

/-- From a launch memory that holds the tables `a`, each execution terminates, each argument ends unchanged and each
    semaphore counter ends at zero. -/
theorem frame (hp : Pinned a m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged a m ρ hp) ((θ_run defs _ _).mono (fun _ h => h.2) (run_main_quiescent a m ρ hp))

end Cert.Kernel.Experts

end
-- ==== Proof.ExpertsBits.Tables.lean ====
module

public import proofs.«01_k».proof.Proof.ExpertsBits.Launch
public import proofs.«01_k».proof.Defs
public import Idealize.ShloMosaic.Lib.WordCmp
public import Idealize.ShloMosaic.Lib.Pipeline.Value

/-! What the precondition gives the launch: each table word names one of the 32 experts, so each weight block lies in its array. -/

set_option maxRecDepth 16384

@[expose] public noncomputable section

namespace Cert.Kernel.Experts

open Cert.Kernel Cert.Kernel.Gen
open Idealize.ShloMosaic Idealize.ShloMosaic.ValueIdx Idealize.ShloMosaic.TcCoe Idealize.SL.Sem

variable (m : (ℓ : Loc nD τ sig) → Buf (Elt Bits) ℓ)

/-- A word between 0 and 31, signed, is below 32. -/
theorem small_of_between (b : BitVec 32) (h : IntOp.andi (IntOp.cmpi .sge b 0#32) (IntOp.cmpi .sle b 31#32) = 1#1) : b.toNat < 32 := by
  rw [WordCmp.cmpi_sge_eq, WordCmp.cmpi_sle_eq] at h
  have h0 : (0#32 : BitVec 32).toInt ≤ b.toInt ∧ b.toInt ≤ (31#32 : BitVec 32).toInt := by
    by_cases h1 : (0#32 : BitVec 32).toInt ≤ b.toInt
    · by_cases h2 : b.toInt ≤ (31#32 : BitVec 32).toInt
      · exact ⟨h1, h2⟩
      · rw [decide_eq_true h1, decide_eq_false h2] at h; exact absurd h (by decide)
    · rw [decide_eq_false h1] at h
      revert h
      cases decide (b.toInt ≤ (31#32 : BitVec 32).toInt) <;> exact fun h => absurd h (by decide)
  have hb := b.isLt
  rw [show (0#32 : BitVec 32).toInt = 0 from rfl, show (31#32 : BitVec 32).toInt = 31 from rfl, BitVec.toInt_eq_toNat_cond] at h0
  split at h0 <;> omega

/-- Each word of the table is below 32. -/
theorem table_small [hPre : Cert.Pre_experts_named.Facts] (h : Cert.Pre_Kernel m) (c : Dev nD) (k : S296.Idx) :
    (m ((c : Thread nD τ).loc main_arg0) k).toNat < 32 := by
  refine small_of_between _ (Eq.trans ?_ (congrFun (h c) k))
  have e0 : broadcastInDim Cert.Pre_experts_named.S296 ![] Cert.Pre_experts_named.Facts.bcast_S_S296 (constantI Cert.Pre_experts_named.S_ 32 0#32) k = 0#32 :=
    broadcastInDim_apply _ _ _ k (fun a => a.elim0) (fun a => a.elim0)
  have e1 : broadcastInDim Cert.Pre_experts_named.S296 ![] Cert.Pre_experts_named.Facts.bcast_S_S296 (constantI Cert.Pre_experts_named.S_ 32 31#32) k = 31#32 :=
    broadcastInDim_apply _ _ _ k (fun a => a.elim0) (fun a => a.elim0)
  show IntOp.andi (IntOp.cmpi .sge _ _) (IntOp.cmpi .sle _ _)
    = IntOp.andi (IntOp.cmpi .sge _ (broadcastInDim Cert.Pre_experts_named.S296 ![] Cert.Pre_experts_named.Facts.bcast_S_S296 (constantI Cert.Pre_experts_named.S_ 32 0#32) k))
      (IntOp.cmpi .sle _ (broadcastInDim Cert.Pre_experts_named.S296 ![] Cert.Pre_experts_named.Facts.bcast_S_S296 (constantI Cert.Pre_experts_named.S_ 32 31#32) k))
  rw [e0, e1]

/-- The one device. -/
abbrev dev0 : Dev nD := 0
theorem dev_eq (c : Dev nD) : c = dev0 := Subsingleton.elim (α := Fin 1) _ _

/-- The tables the launch memory holds. -/
def tables : pre0.Contents (Elt Bits) := fun j => m ((dev0 : Thread nD τ).loc (pre0.ref j))

/-- At tables whose words are below 32 each block lies in its array. -/
theorem tables_ok (hs : ∀ k : S296.Idx, (m ((dev0 : Thread nD τ).loc main_arg0) k).toNat < 32) : ok0 (F := Bits) (tables m) := by
  refine ⟨fun i => ⟨fun b => ?_, .inl rfl⟩, fun i => ⟨fun b => ?_, .inl rfl⟩, fun i => ⟨fun b => ?_, .inl rfl⟩, fun i => ⟨fun b => ?_, .inl rfl⟩⟩
  · fin_cases b
    · show ((m ((dev0 : Thread nD τ).loc main_arg0) _).toNat + 1) * 1 ≤ 32
      rw [Nat.mul_one]; exact hs _
    · show (0 + 1) * 1024 ≤ 1024; decide
    · show (0 + 1) * 2048 ≤ 2048; decide
  · fin_cases b
    · show ((m ((dev0 : Thread nD τ).loc main_arg0) _).toNat + 1) * 1 ≤ 32
      rw [Nat.mul_one]; exact hs _
    · show (0 + 1) * 1 ≤ 1; decide
    · show (0 + 1) * 2048 ≤ 2048; decide
  · fin_cases b
    · show ((m ((dev0 : Thread nD τ).loc main_arg0) _).toNat + 1) * 1 ≤ 32
      rw [Nat.mul_one]; exact hs _
    · show (0 + 1) * 1024 ≤ 1024; decide
    · show (0 + 1) * 1024 ≤ 1024; decide
  · fin_cases b
    · show ((m ((dev0 : Thread nD τ).loc main_arg0) _).toNat + 1) * 1 ≤ 32
      rw [Nat.mul_one]; exact hs _
    · show (0 + 1) * 1 ≤ 1; decide
    · show (0 + 1) * 1024 ≤ 1024; decide

/-- The tables with the fact that their blocks lie in the arrays. -/
def admitted [hPre : Cert.Pre_experts_named.Facts] (h : Cert.Pre_Kernel m) : (pcfg0 (F := Bits)).Adm :=
  ⟨tables m, tables_ok m fun k => table_small m h dev0 k⟩

/-- The launch memory holds them, on every device. -/
theorem pinned [hPre : Cert.Pre_experts_named.Facts] (h : Cert.Pre_Kernel m) : Pinned (admitted m h) m :=
  ⟨fun c => by rw [dev_eq c]; rfl, fun c => by rw [dev_eq c]; rfl⟩

end Cert.Kernel.Experts

end
-- ==== Proof.Experts.Gather.lean ====
module

public import Idealize.ShloMosaic.Lib.ValueIdxCore

/-! The gather of whole slabs of a rank-3 array by a column of slab numbers, read at an index. -/

@[expose] public section

namespace Cert.Experts

open Idealize.ShloMosaic Idealize.ShloMosaic.ValueIdx

variable {α : Type}

/-- The dimension numbers of `x[idx]` with `x` of shape `[E, A, B]` and `idx` of shape `[n, 1]`. -/
abbrev slabDims (E A B n : Nat) (wf : GatherDims.WF ⟨3, ![E, A, B]⟩ ⟨2, ![n, 1]⟩ ⟨3, ![n, A, B]⟩ [1, 2] [0] [] [0] [] 1 ![1, A, B]) :
    GatherDims ⟨3, ![E, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Element `(t, r, n)` is element `(r, n)` of the slab whose number `idx` holds at `t`, clamped into the array. -/
theorem gather_slab_apply {E A B n w : Nat} (hE : 0 < E)
    (wf : GatherDims.WF ⟨3, ![E, A, B]⟩ ⟨2, ![n, 1]⟩ ⟨3, ![n, A, B]⟩ [1, 2] [0] [] [0] [] 1 ![1, A, B])
    (x : (⟨3, ![E, A, B]⟩ : Shape).Idx → α) (idx : IVec ⟨2, ![n, 1]⟩ w) (t : Fin n) (r : Fin A) (c : Fin B) :
    Host.gather (slabDims E A B n wf) x idx (ix3 t r c)
      = x (ix3 ⟨min (idx (ix2 t (0 : Fin 1))).toInt.toNat (E - 1), by omega⟩ r c) := by
  show x _ = x _
  refine congrArg x (funext fun a => Fin.ext ?_)
  show (slabDims E A B n wf).start (ix3 t r c) idx a + (slabDims E A B n wf).batchCoord (ix3 t r c) a
      + (slabDims E A B n wf).offCoord (ix3 t r c) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, _⟩ : Fin 3) ∈ (slabDims E A B n wf).startIndexMap from List.mem_singleton.mpr rfl)]
    have hsi : (slabDims E A B n wf).siIdx (ix3 t r c) ⟨List.idxOf (0 : Fin 3) (slabDims E A B n wf).startIndexMap,
        List.idxOf_lt_length_iff.2 (List.mem_singleton.mpr rfl)⟩ = ix2 t (0 : Fin 1) := by
      refine funext fun b => Fin.ext ?_
      match b with
      | ⟨0, _⟩ => rfl
      | ⟨1, _⟩ => rfl
    exact congrArg (fun k => min (idx k).toInt.toNat (E - 1)) hsi
  | ⟨1, _⟩ =>
    have h0 : (slabDims E A B n wf).start (ix3 t r c) idx 1 = 0 := by
      unfold GatherDims.start
      rw [dif_neg (show ¬ (1 : Fin 3) ∈ ([0] : List (Fin 3)) by decide)]
    show (slabDims E A B n wf).start (ix3 t r c) idx 1 + (slabDims E A B n wf).offCoord (ix3 t r c) 1 = _
    rw [h0]
    exact Nat.zero_add _
  | ⟨2, _⟩ =>
    have h0 : (slabDims E A B n wf).start (ix3 t r c) idx 2 = 0 := by
      unfold GatherDims.start
      rw [dif_neg (show ¬ (2 : Fin 3) ∈ ([0] : List (Fin 3)) by decide)]
    show (slabDims E A B n wf).start (ix3 t r c) idx 2 + (slabDims E A B n wf).offCoord (ix3 t r c) 2 = _
    rw [h0]
    exact Nat.zero_add _

end Cert.Experts

end
-- ==== Proof.Experts.Reference.lean ====
module

public import proofs.«01_k».proof.Proof.Gen.ReferenceIdeal.Run
public import proofs.«01_k».proof.Proof.Gen.ReferenceIdeal.Read
public import proofs.«01_k».proof.Proof.Experts.Gather
public import proofs.«01_k».proof.Proof.Experts.Spec

/-! The reference's result: each row's layer by the expert its block's table word names, zero past the blocks in use. -/

@[expose] public noncomputable section

namespace Cert.ReferenceIdeal.Experts

open Cert.ReferenceIdeal Cert.ReferenceIdeal.Gen Cert.ReferenceIdeal.Read Cert.Experts
open Idealize.ShloMosaic Idealize.ShloMosaic.ValueIdx Idealize.ShloMosaic.TcCoe Idealize.SL.Sem Idealize.ShloMosaic.StableHlo

variable (x0 : S296.Idx → BitVec 32) (x1 : S1.Idx → BitVec 32) (x2 : S76288x1024.Idx → Ideal .f32) (x3 : S32x1024x2048.Idx → Ideal .f32)
  (x4 : S32x1x2048.Idx → Ideal .f32) (x5 : S32x1024x1024.Idx → Ideal .f32) (x6 : S32x1x1024.Idx → Ideal .f32)

/-- The table as a column holds the table's words. -/
theorem column_apply (t : Fin 296) : val_main_call0_v0 (F := Ideal) x0 (ix2 t (0 : Fin 1)) = x0 (ix1 t) := by
  rw [val_main_call0_v0_apply]
  exact congrArg x0 (funext fun b => match b with | ⟨0, _⟩ => rfl)

/-- The four gathers take the slab of the named expert. -/
theorem take_up (t : Fin 296) (k : Fin 1024) (n : Fin 2048) :
    val_main_v2 (F := Ideal) x0 x3 (ix3 t k n) = x3 (ix3 (named (x0 (ix1 t))) k n) := by
  refine (gather_slab_apply (by decide) gather_S32x1024x2048_S296x1_S296x1024x2048_12_0_n_n_0_1_110242048.wf x3 _ t k n).trans ?_
  exact congrArg (fun b : BitVec 32 => x3 (ix3 (named b) k n)) (column_apply x0 t)
theorem take_upBias (t : Fin 296) (n : Fin 2048) :
    val_main_v4 (F := Ideal) x0 x4 (ix3 t (0 : Fin 1) n) = x4 (ix3 (named (x0 (ix1 t))) (0 : Fin 1) n) := by
  refine (gather_slab_apply (by decide) gather_S32x1x2048_S296x1_S296x1x2048_12_0_n_n_0_1_112048.wf x4 _ t 0 n).trans ?_
  exact congrArg (fun b : BitVec 32 => x4 (ix3 (named b) (0 : Fin 1) n)) (column_apply x0 t)
theorem take_down (t : Fin 296) (k j : Fin 1024) :
    val_main_v24 (F := Ideal) x0 x5 (ix3 t k j) = x5 (ix3 (named (x0 (ix1 t))) k j) := by
  refine (gather_slab_apply (by decide) gather_S32x1024x1024_S296x1_S296x1024x1024_12_0_n_n_0_1_110241024.wf x5 _ t k j).trans ?_
  exact congrArg (fun b : BitVec 32 => x5 (ix3 (named b) k j)) (column_apply x0 t)
theorem take_downBias (t : Fin 296) (j : Fin 1024) :
    val_main_v26 (F := Ideal) x0 x6 (ix3 t (0 : Fin 1) j) = x6 (ix3 (named (x0 (ix1 t))) (0 : Fin 1) j) := by
  refine (gather_slab_apply (by decide) gather_S32x1x1024_S296x1_S296x1x1024_12_0_n_n_0_1_111024.wf x6 _ t 0 j).trans ?_
  exact congrArg (fun b : BitVec 32 => x6 (ix3 (named b) (0 : Fin 1) j)) (column_apply x0 t)

/-- Row `r` of block `t`. -/
abbrev row (t : Fin 296) (r : Fin 256) : Fin 76288 := ⟨t.val * 256 + r.val, by omega⟩

/-- The blocked rows are the rows. -/
theorem rows_apply (t : Fin 296) (r : Fin 256) (k : Fin 1024) :
    val_main_v1 (F := Ideal) x2 (ix3 t r k) = x2 (ix2 (row t r) k) := by
  rw [val_main_v1_apply, val_main_v0_apply]
  refine congrArg x2 (funext fun b => Fin.ext ?_)
  match b with
  | ⟨0, _⟩ => show ((t.val * 256 + r.val) * 1024 + k.val) / 1024 = t.val * 256 + r.val; omega
  | ⟨1, _⟩ => show ((t.val * 256 + r.val) * 1024 + k.val) % 1024 = k.val; omega

/-- The first product with its bias. -/
theorem up_apply (t : Fin 296) (r : Fin 256) (n : Fin 2048) :
    val_main_v6 (F := Ideal) x0 x2 x3 x4 (ix3 t r n) = up x2 x3 x4 (named (x0 (ix1 t))) (row t r) n := by
  rw [val_main_v6_apply, val_main_v3_apply, val_main_v5_apply]
  unfold up
  have hb : idx_main_v5 (ix3 t r n) = ix3 t (0 : Fin 1) n := funext fun b => match b with
    | ⟨0, _⟩ => rfl
    | ⟨1, _⟩ => rfl
    | ⟨2, _⟩ => rfl
  rw [hb, take_upBias]
  refine congrArg (fun s => FloatOps.addf (F := Ideal) (φ := .f32) s (x4 (ix3 (named (x0 (ix1 t))) (0 : Fin 1) n))) (Finset.sum_congr rfl fun k _ => ?_)
  have hl : lidx_main_v3 (ix3 t r n) k = ix3 t r k := funext fun b => match b with
    | ⟨0, _⟩ => rfl
    | ⟨1, _⟩ => rfl
    | ⟨2, _⟩ => rfl
  have hr : ridx_main_v3 (ix3 t r n) k = ix3 t k n := funext fun b => match b with
    | ⟨0, _⟩ => rfl
    | ⟨1, _⟩ => rfl
    | ⟨2, _⟩ => rfl
  rw [hl, hr, rows_apply, take_up]

/-- The gate of the two halves. -/
theorem gate_apply (t : Fin 296) (r : Fin 256) (n : Fin 1024) :
    val_main_v23 (F := Ideal) x0 x2 x3 x4 (ix3 t r n)
      = gate (up x2 x3 x4 (named (x0 (ix1 t))) (row t r) (low n)) (up x2 x3 x4 (named (x0 (ix1 t))) (row t r) (high n)) := by
  have hu : val_main_v7 (F := Ideal) x0 x2 x3 x4 (ix3 t r n) = up x2 x3 x4 (named (x0 (ix1 t))) (row t r) (low n) := by
    rw [val_main_v7_apply, ← up_apply]
    exact congrArg _ (funext fun b => match b with
      | ⟨0, _⟩ => rfl
      | ⟨1, _⟩ => rfl
      | ⟨2, _⟩ => rfl)
  have hl : val_main_v10 (F := Ideal) x0 x2 x3 x4 (ix3 t r n) = up x2 x3 x4 (named (x0 (ix1 t))) (row t r) (high n) := by
    rw [val_main_v10_apply, ← up_apply]
    exact congrArg _ (funext fun b => match b with
      | ⟨0, _⟩ => rfl
      | ⟨1, _⟩ => rfl
      | ⟨2, _⟩ => rfl)
  rw [val_main_v23_apply, val_main_v20_apply, val_main_v22_apply, val_main_v19_apply, val_main_v17_apply, val_main_v15_apply,
    val_main_v14_apply, val_main_v13_apply, val_main_v9_apply, val_main_v11_apply, val_main_call2_v2_apply, hu, hl,
    val_main_v8_apply, val_main_v12_apply, val_main_v16_apply, val_main_v18_apply, val_main_v21_apply, val_main_call2_v1_apply, val_main_call2_v4_apply]
  rfl

/-- The second product with its bias. -/
theorem down_apply (t : Fin 296) (r : Fin 256) (j : Fin 1024) :
    val_main_v28 (F := Ideal) x0 x2 x3 x4 x5 x6 (ix3 t r j) = down x2 x3 x4 x5 x6 (named (x0 (ix1 t))) (row t r) j := by
  rw [val_main_v28_apply, val_main_v25_apply, val_main_v27_apply]
  unfold down
  have hb : idx_main_v27 (ix3 t r j) = ix3 t (0 : Fin 1) j := funext fun b => match b with
    | ⟨0, _⟩ => rfl
    | ⟨1, _⟩ => rfl
    | ⟨2, _⟩ => rfl
  rw [hb, take_downBias]
  refine congrArg (fun s => FloatOps.addf (F := Ideal) (φ := .f32) s (x6 (ix3 (named (x0 (ix1 t))) (0 : Fin 1) j))) (Finset.sum_congr rfl fun k _ => ?_)
  have hl : lidx_main_v25 (ix3 t r j) k = ix3 t r k := funext fun b => match b with
    | ⟨0, _⟩ => rfl
    | ⟨1, _⟩ => rfl
    | ⟨2, _⟩ => rfl
  have hr : ridx_main_v25 (ix3 t r j) k = ix3 t k j := funext fun b => match b with
    | ⟨0, _⟩ => rfl
    | ⟨1, _⟩ => rfl
    | ⟨2, _⟩ => rfl
  rw [hl, hr, gate_apply, take_down]

/-- A block number's word is the number, signed. -/
theorem block_toInt : ∀ t : Fin 296, (BitVec.ofNat 32 t.val).toInt = t.val := by decide +kernel

/-- The mask holds where the block is in use. -/
theorem mask_apply (t : Fin 296) (r : Fin 256) (j : Fin 1024) :
    val_main_call5_v1 (F := Ideal) x1 (ix3 t r j) = BitVec.ofBool (decide ((t.val : ℤ) < (x1 (ix1 (0 : Fin 1))).toInt)) := by
  rw [val_main_call5_v1_apply, val_main_v33_apply, val_main_v32_apply, val_main_v31_apply, val_main_v29_apply]
  have h1 : val_main_v30 (F := Ideal) x1 (idx_main_v31 (idx_main_v33 (idx_main_call5_v1 (ix3 t r j)))) = x1 (ix1 (0 : Fin 1)) := by
    refine congrArg x1 (funext fun b => ?_)
    match b with
    | ⟨0, _⟩ => exact Subsingleton.elim (α := Fin 1) _ _
  rw [h1]
  show BitVec.ofBool ((BitVec.ofNat 32 t.val).slt (x1 (ix1 (0 : Fin 1)))) = _
  rw [BitVec.slt, block_toInt]

/-- The masked rows of one block. -/
theorem masked_apply (t : Fin 296) (r : Fin 256) (j : Fin 1024) :
    val_main_v34 (F := Ideal) x0 x1 x2 x3 x4 x5 x6 (ix3 t r j) = rowOut x2 x3 x4 x5 x6 x0 x1 t (row t r) j := by
  rw [val_main_v34_apply, mask_apply, down_apply, val_main_call5_v2_apply]
  unfold rowOut Scalar.select
  by_cases h : (t.val : ℤ) < (x1 (ix1 (0 : Fin 1))).toInt
  · rw [if_pos h, decide_eq_true h]; rfl
  · rw [if_neg h, decide_eq_false h]; rfl

/-- The reference's result is the specified output. -/
theorem result_eq : val_main_v35 (F := Ideal) x0 x1 x2 x3 x4 x5 x6 = output x2 x3 x4 x5 x6 x0 x1 := by
  funext i
  have h0 : (i 0).val < 75776 := (i 0).isLt
  have h1 : (i 1).val < 1024 := (i 1).isLt
  have hi : idx_main_v35 i = ix3 (⟨(i 0).val / 256, by omega⟩ : Fin 296) (⟨(i 0).val % 256, by omega⟩ : Fin 256) (⟨(i 1).val, h1⟩ : Fin 1024) := funext fun b => Fin.ext (by
    match b with
    | ⟨0, _⟩ => show ((i 0).val * 1024 + (i 1).val) / 262144 = (i 0).val / 256; omega
    | ⟨1, _⟩ => show ((i 0).val * 1024 + (i 1).val) / 1024 % 256 = (i 0).val % 256; omega
    | ⟨2, _⟩ => show ((i 0).val * 1024 + (i 1).val) % 1024 = (i 1).val; omega)
  rw [val_main_v35_apply, hi]
  refine (masked_apply x0 x1 x2 x3 x4 x5 x6 _ _ _).trans ?_
  unfold output
  have hr : row (⟨(i 0).val / 256, by omega⟩ : Fin 296) (⟨(i 0).val % 256, by omega⟩ : Fin 256) = ⟨(i 0).val, by omega⟩ :=
    Fin.ext (show (i 0).val / 256 * 256 + (i 0).val % 256 = (i 0).val by omega)
  rw [hr]
  rfl

end Cert.ReferenceIdeal.Experts

end
-- ==== Proof.MixerIdeal.Slabs.lean ====
module

public import proofs.«01_k».proof.Proof.Gen.Kernel2Ideal.Frame
public import proofs.«01_k».proof.Proof.Gen.Kernel2Ideal.Skeleton
public import Idealize.ShloMosaic.Lib.Pointwise

/-! The sample's rolling windows: each stream's window loses its oldest 64 rows and gains the stream's 64 new ones, and
    the body stores them stream by stream. -/

set_option maxRecDepth 16384
set_option Elab.async false

@[expose] public noncomputable section

namespace Cert.Kernel2Ideal.Mixer

open Cert.Kernel2Ideal Cert.Kernel2Ideal.Gen
open Idealize.ShloMosaic

variable {F : FTy → Type} [FloatOps F]

/-- Of each stream the window's last 64 rows and then the stream's 64 new rows. -/
def joined (cache : Vec F S8x128x128 .f32) (rows : FVec F S512x128 .f32) : Vec F S8x128x128 .f32 := fun y =>
  have h0 : (y 0).val < 8 := (y 0).isLt
  have h1 : (y 1).val < 128 := (y 1).isLt
  if h : (y 1).val < 64 then cache (ix3 (y 0) ⟨64 + (y 1).val, by omega⟩ (y 2))
  else rows (ix2 ⟨64 * (y 0).val + ((y 1).val - 64), by omega⟩ (y 2))

/-- One stream's window as the body computes it: `slab` is its window, and its new rows are those from `o` on. -/
def piece (o : ℕ) (h : S512x128.Slices ![o, 0] S64x128) (slab : Vec F S1x128x128 .f32) (rows : FVec F S512x128 .f32) : Vec F S1x128x128 .f32 :=
  shapeCast S1x128x128 (extractStridedSlice S128x128 ![64, 0] (concatenate S192x128 0
    [⟨S128x128, shapeCast S128x128 slab shapeCasts_S1x128x128_S128x128⟩, ⟨S64x128, extractStridedSlice S64x128 ![o, 0] rows h⟩]
    concatenates_S128x128_S64x128_S192x128_d0) slices_S192x128_o64_0_S128x128) shapeCasts_S128x128_S1x128x128

/-- It at an index. -/
theorem piece_apply (o : ℕ) (ho : o + 64 ≤ 512) (h : S512x128.Slices ![o, 0] S64x128) (slab : Vec F S1x128x128 .f32) (rows : FVec F S512x128 .f32)
    (r j : Fin 128) : piece o h slab rows (ix3 (0 : Fin 1) r j)
      = if hr : r.val < 64 then slab (ix3 (0 : Fin 1) ⟨64 + r.val, by omega⟩ j) else rows (ix2 ⟨o + (r.val - 64), by omega⟩ j) := by
  pointwise [piece]
  by_cases hr : r.val < 64
  · rw [dif_pos hr, dif_pos (by omega)]
  · rw [dif_neg hr, dif_neg (by omega)]
    exact congrArg (fun k => rows (ix2 k j)) (Fin.ext (show o + (64 + r.val - 128) = o + (r.val - 64) by omega))

/-- A stream's stored window is that stream's part of the joined windows. -/
theorem piece_joined {a : Memref sig .tc .vmem S8x128x128 .f32} (ha : a.IsWhole) (cache : Vec F S8x128x128 .f32) {rows rows' : FVec F S512x128 .f32}
    (hrows : rows' = rows) (b : ℕ) (hb : b < 8) (hi : ∀ k, (![b, 0, 0] : Fin 3 → ℕ) k + S1x128x128.size k ≤ S8x128x128.size k)
    (h : S512x128.Slices ![64 * b, 0] S64x128) {p : Vec F S1x128x128 .f32}
    (hp : p = piece (64 * b) h (View.readAt (Elt F) a.view (Rect.unit (s := S8x128x128) ![b, 0, 0] S1x128x128.size hi).toLoadRect (ha.unread cache)) rows')
    (x : S1x128x128.Idx) : p x = joined cache rows ((Rect.unit (s := S8x128x128) ![b, 0, 0] S1x128x128.size hi).emb x) := by
  subst hrows hp
  obtain ⟨r, j, rfl⟩ : ∃ r j : Fin 128, x = ix3 (0 : Fin 1) r j :=
    ⟨x 1, x 2, funext fun k => by fin_cases k; exacts [Subsingleton.elim (α := Fin 1) _ _, rfl, rfl]⟩
  have he : (Rect.unit (s := S8x128x128) ![b, 0, 0] S1x128x128.size hi).emb (ix3 (0 : Fin 1) r j) = (ix3 (⟨b, hb⟩ : Fin 8) r j : S8x128x128.Idx) := by
    refine funext fun k => Fin.ext ?_
    fin_cases k
    · show b + 1 * 0 = b
      omega
    · show 0 + 1 * r.val = r.val
      omega
    · show 0 + 1 * j.val = j.val
      omega
  rw [he, piece_apply (64 * b) (by omega)]
  unfold joined
  refine dite_congr rfl (fun hr => ?_) fun _ => rfl
  rw [View.readAt_apply, ha.read_unread]
  refine congrArg cache (funext fun k => Fin.ext ?_)
  fin_cases k
  · show b + 1 * 0 = b
    omega
  · show 0 + 1 * (64 + r.val) = 64 + r.val
    omega
  · show 0 + 1 * j.val = j.val
    omega

/-- Eight stores, stream after stream, that each agree with `G` on their stream fill the buffer with `G`. -/
theorem read_streams {sp : Space} (v : View sig .tc sp S8x128x128 .f32) (f) (G : Vec F S8x128x128 .f32) (p : Fin 8 → Vec F S1x128x128 .f32)
    (hi : ∀ b : Fin 8, ∀ k, (![b.val, 0, 0] : Fin 3 → ℕ) k + S1x128x128.size k ≤ S8x128x128.size k)
    (hp : ∀ b x, p b x = G ((Rect.unit (s := S8x128x128) ![b.val, 0, 0] S1x128x128.size (hi b)).emb x)) :
    v.read (Elt F) (v.writes (Elt F) f ((List.finRange 8).reverse.map fun b => ⟨Rect.unit (s := S8x128x128) ![b.val, 0, 0] S1x128x128.size (hi b), p b⟩)) = G := by
  funext y
  refine View.read_writes_apply_of_pieces v f G _ (fun q hq => ?_) y ?_
  · obtain ⟨b, -, rfl⟩ := List.mem_map.mp hq
    exact hp b
  · refine ⟨_, List.mem_map.mpr ⟨(y 0 : Fin 8), List.mem_reverse.mpr (List.mem_finRange _), rfl⟩, ?_⟩
    rw [Rect.mem_set_unit]
    intro k
    have h1 := (y 1).isLt
    have h2 := (y 2).isLt
    fin_cases k
    · exact ⟨le_rfl, Nat.lt_succ_self _⟩
    · exact ⟨Nat.zero_le _, by simpa using h1⟩
    · exact ⟨Nat.zero_le _, by simpa using h2⟩

/-- The places of a stream in the windows, and of its new rows in the sample's. -/
theorem stream_inb : ∀ b : Fin 8, ∀ k, (![b.val, 0, 0] : Fin 3 → ℕ) k + S1x128x128.size k ≤ S8x128x128.size k := by decide
theorem stream_slices : ∀ b : Fin 8, S512x128.Slices ![64 * b.val, 0] S64x128 := by decide

/-- So the eight stores of the streams' windows, each computed from that stream's window, fill the buffer with the joined windows. -/
theorem read_joined {sp : Space} (v : View sig .tc sp S8x128x128 .f32) (f) {a : Memref sig .tc .vmem S8x128x128 .f32} (ha : a.IsWhole)
    (cache : Vec F S8x128x128 .f32) {rows rows' : FVec F S512x128 .f32} (hrows : rows' = rows) (L : List (View.Piece (Elt F) S8x128x128 .f32))
    (hL : L = (List.finRange 8).reverse.map fun b => ⟨Rect.unit (s := S8x128x128) ![b.val, 0, 0] S1x128x128.size (stream_inb b),
      piece (64 * b.val) (stream_slices b)
        (View.readAt (Elt F) a.view (Rect.unit (s := S8x128x128) ![b.val, 0, 0] S1x128x128.size (stream_inb b)).toLoadRect (ha.unread cache)) rows'⟩) :
    v.read (Elt F) (v.writes (Elt F) f L) = joined cache rows := by
  subst hL
  exact read_streams v f _ _ stream_inb fun b => piece_joined ha cache hrows b.val b.isLt _ (stream_slices b) rfl

end Cert.Kernel2Ideal.Mixer

end
-- ==== Proof.MixerIdeal.Run.lean ====
module

public import proofs.«01_k».proof.Proof.Gen.Kernel2Ideal.Frame
public import proofs.«01_k».proof.Proof.Gen.Kernel2Ideal.Skeleton
public import proofs.«01_k».proof.Proof.MixerIdeal.Slabs

/-! What the body of a grid point does: a point of the prompt that is a stream's last leaves the last rows' keys and
    values, the sample's point leaves the gating rows and the rolled windows; everything else that is written is left unnamed. -/

set_option maxRecDepth 16384
set_option Elab.async false

@[expose] public noncomputable section

namespace Cert.Kernel2Ideal.Mixer

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The tests that the body makes: the first point; a point of the prompt; a stream's first point; a stream's last point;
    the sample's point. -/
abbrev cond0 (i : grid0.Coords) : Prop := (Scalar.cmpi .ne (Scalar.extui (Scalar.cmpi .eq (BitVec.ofNat 32 (i 0).val) 0#32)) 0#32) = 1#1
abbrev cond1 (i : grid0.Coords) : Prop := k0_cond2 i = 1#1
abbrev cond2 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32)) 0#32) = 1#1
abbrev cond3 (i : grid0.Coords) : Prop := k0_cond4 i = 1#1
abbrev cond4 (i : grid0.Coords) : Prop := k0_cond5 i = 1#1

/-- The keys and the values of a block's last rows, and the normalised gating rows, as the body computes them. -/
def keysOf (x : Vec F S512x1024 .f32) (g : Vec F S1x1024 .f32) (w : Vec F S1024x1792 .bf16) : Vec F S1x128x128 .f32 :=
  k0_pay29 (k0_pay16 x g w)
def valuesOf (x : Vec F S512x1024 .f32) (g : Vec F S1x1024 .f32) (w : Vec F S1024x1792 .bf16) : Vec F S1x128x128 .f32 :=
  k0_pay30 (k0_pay17 x g w)
def gateOf (x : Vec F S512x1024 .f32) (g : Vec F S1x1024 .f32) (w : Vec F S1024x1792 .bf16) (s : Vec F S1x512 .f32) : Vec F S512x512 .f32 :=
  k0_pay224 (k0_pay218 (k0_pay216 x g w) s) (k0_pay219 (k0_pay216 x g w) s) (k0_pay220 (k0_pay216 x g w) s)
    (k0_pay221 (k0_pay216 x g w)) (k0_pay222 s) (k0_pay223 (k0_pay216 x g w))

/-- The sample's rolled windows of keys and of values, from the windows before. -/
def rolledKeysOf (y : Vec F S8x128x128 .f32) (x : Vec F S512x1024 .f32) (g : Vec F S1x1024 .f32) (w : Vec F S1024x1792 .bf16) : Vec F S8x128x128 .f32 :=
  joined y (k0_pay213 x g w)
def rolledValuesOf (y : Vec F S8x128x128 .f32) (x : Vec F S512x1024 .f32) (g : Vec F S1x1024 .f32) (w : Vec F S1024x1792 .bf16) : Vec F S8x128x128 .f32 :=
  joined y (k0_pay214 x g w)

/-- What is left where a stream's last point stores `v` and the sample's point stores nothing. -/
def Left (i : grid0.Coords) (v y d : Vec F S1x128x128 .f32) : Prop := (cond1 i → cond3 i → d = v) ∧ (cond4 i → d = y)

/-- A memref's buffer at any contents holds something; -/
theorem owns_some {c : Dev nD} {sh : Shape} {e : EltTy} {a : Memref sig .tc .vmem sh e} {f} :
    (a.view.loc (c : Thread nD τ) ↦[a.view.set]{fullShare} f : sProp 𝕄) ⊢ iprop(∃ d f, ⌜a.view.read (Elt F) f = d⌝ ∗ (a.view.loc (c : Thread nD τ) ↦[a.view.set]{fullShare} f)) := by
  iintro H; iexists _; iexists f; isplitr; swap; · iexact H
  ipureintro; rfl

/-- a whole memref's buffer at what a value fills it with holds that value; -/
theorem owns_unread {c : Dev nD} {sh : Shape} {e : EltTy} {a : Memref sig .tc .vmem sh e} (h : a.IsWhole) {x : sh.Idx → Elt F e} :
    (a.view.loc (c : Thread nD τ) ↦[a.view.set]{fullShare} h.unread x : sProp 𝕄) ⊢ iprop(∃ f, ⌜a.view.read (Elt F) f = x⌝ ∗ (a.view.loc (c : Thread nD τ) ↦[a.view.set]{fullShare} f)) := by
  iintro H; iexists _; isplitr; swap; · iexact H
  ipureintro; exact h.read_unread x

/-- A whole buffer loaded in full is what it was filled with; -/
theorem read_all {s : Shape} {e : EltTy} {a : Memref sig .tc .vmem s e} (ha : a.IsWhole) {o : Fin s.rank → ℕ} (ho : o = fun _ => 0)
    (h : ∀ b, o b + s.size b ≤ s.size b) (x : s.Idx → Elt F e) :
    View.readAt (Elt F) a.view (Rect.unit o s.size h).toLoadRect (ha.unread x) = x := by
  subst ho
  funext y
  rw [View.readAt_apply, ha.read_unread]
  refine congrArg x (funext fun b => Fin.ext ?_)
  simp [LoadRect.idx, Rect.toLoadRect]

/-- a buffer stored in full holds the piece stored. -/
theorem read_stored {s : Shape} {e : EltTy} {sp : Space} (v : View sig .tc sp s e) (f) {o : Fin s.rank → ℕ} (ho : o = fun _ => 0)
    (h : ∀ b, o b + s.size b ≤ s.size b) (w : s.Idx → Elt F e) :
    v.read (Elt F) (v.writes (Elt F) f [⟨Rect.unit o s.size h, w⟩]) = w := by
  subst ho
  funext y
  have hy : (Rect.unit (s := s) (fun _ => 0) s.size h).emb y = y := by
    refine funext fun b => Fin.ext ?_
    show 0 + 1 * (y b).val = (y b).val
    omega
  have := View.read_writes_cons_emb (Val := Elt F) v f (Rect.unit (s := s) (fun _ => 0) s.size h) w [] y
  rw [hy] at this
  exact this

theorem zero2 : (![0, 0] : Fin 2 → ℕ) = fun _ => 0 := by funext a; fin_cases a <;> rfl
theorem zero3 : (![0, 0, 0] : Fin 3 → ℕ) = fun _ => 0 := by funext a; fin_cases a <;> rfl

/-- The keys, values and gating rows of equal inputs are equal. -/
theorem keys_of {x x' : Vec F S512x1024 .f32} {g g' : Vec F S1x1024 .f32} {w w' : Vec F S1024x1792 .bf16} (hx : x' = x) (hg : g' = g) (hw : w' = w) :
    k0_pay29 (k0_pay16 x' g' w') = keysOf x g w := by subst hx hg hw; rfl
theorem values_of {x x' : Vec F S512x1024 .f32} {g g' : Vec F S1x1024 .f32} {w w' : Vec F S1024x1792 .bf16} (hx : x' = x) (hg : g' = g) (hw : w' = w) :
    k0_pay30 (k0_pay17 x' g' w') = valuesOf x g w := by subst hx hg hw; rfl
theorem gate_of {x x' : Vec F S512x1024 .f32} {g g' : Vec F S1x1024 .f32} {w w' : Vec F S1024x1792 .bf16} {s s' : Vec F S1x512 .f32}
    (hx : x' = x) (hg : g' = g) (hw : w' = w) (hs : s' = s) :
    k0_pay224 (k0_pay218 (k0_pay216 x' g' w') s') (k0_pay219 (k0_pay216 x' g' w') s') (k0_pay220 (k0_pay216 x' g' w') s')
      (k0_pay221 (k0_pay216 x' g' w')) (k0_pay222 s') (k0_pay223 (k0_pay216 x' g' w')) = gateOf x g w s := by subst hx hg hw hs; rfl

theorem key_rows {x x' : Vec F S512x1024 .f32} {g g' : Vec F S1x1024 .f32} {w w' : Vec F S1024x1792 .bf16} (hx : x' = x) (hg : g' = g) (hw : w' = w) :
    k0_pay213 x' g' w' = k0_pay213 x g w := by subst hx hg hw; rfl
theorem value_rows {x x' : Vec F S512x1024 .f32} {g g' : Vec F S1x1024 .f32} {w w' : Vec F S1024x1792 .bf16} (hx : x' = x) (hg : g' = g) (hw : w' = w) :
    k0_pay214 x' g' w' = k0_pay214 x g w := by subst hx hg hw; rfl

/-- The body at point `i` on whole memrefs, the inputs at their contents, runs and leaves the inputs as they were, the
    keys, values, rolled windows and gating rows where they are stored, and everything else at something. -/
def Runs (c : Dev nD) (i : grid0.Coords) : Prop :=
  ∀ (arg1 : Memref sig .tc .vmem S512x1024 .f32) (harg1 : arg1.IsWhole) (arg2 : Memref sig .tc .vmem S512x1024 .f32) (harg2 : arg2.IsWhole) (arg3 : Memref sig .tc .vmem S8x128x128 .f32) (harg3 : arg3.IsWhole)
    (arg4 : Memref sig .tc .vmem S8x128x128 .f32) (harg4 : arg4.IsWhole) (arg5 : Memref sig .tc .vmem S1x1024 .f32) (harg5 : arg5.IsWhole) (arg6 : Memref sig .tc .vmem S1024x1792 .bf16) (harg6 : arg6.IsWhole)
    (arg7 : Memref sig .tc .vmem S1x512 .f32) (harg7 : arg7.IsWhole) (arg8 : Memref sig .tc .vmem S2x256x1 .f32) (harg8 : arg8.IsWhole) (arg9 : Memref sig .tc .vmem S2x256x192 .f32) (harg9 : arg9.IsWhole)
    (arg10 : Memref sig .tc .vmem S4x128x128 .f32) (harg10 : arg10.IsWhole) (arg11 : Memref sig .tc .vmem S128x4 .f32) (harg11 : arg11.IsWhole) (arg12 : Memref sig .tc .vmem S1x512 .f32) (harg12 : arg12.IsWhole)
    (arg13 : Memref sig .tc .vmem S1x512 .f32) (harg13 : arg13.IsWhole) (arg14 : Memref sig .tc .vmem S1024x1024 .bf16) (harg14 : arg14.IsWhole) (arg15 : Memref sig .tc .vmem S1x1024 .f32) (harg15 : arg15.IsWhole)
    (arg16 : Memref sig .tc .vmem S32x1024 .f32) (harg16 : arg16.IsWhole) (arg17 : Memref sig .tc .vmem S32x1 .f32) (harg17 : arg17.IsWhole) (arg18 : Memref sig .tc .vmem S512x1024 .f32) (harg18 : arg18.IsWhole)
    (arg19 : Memref sig .tc .vmem S512x1024 .f32) (harg19 : arg19.IsWhole) (arg20 : Memref sig .tc .vmem S4x512 .i32) (harg20 : arg20.IsWhole) (arg21 : Memref sig .tc .vmem S4x512 .i32) (harg21 : arg21.IsWhole)
    (arg22 : Memref sig .tc .vmem S4x512 .f32) (harg22 : arg22.IsWhole) (arg23 : Memref sig .tc .vmem S32x1 .i32) (harg23 : arg23.IsWhole) (arg24 : Memref sig .tc .vmem S1x128x128 .f32) (harg24 : arg24.IsWhole)
    (arg25 : Memref sig .tc .vmem S1x128x128 .f32) (harg25 : arg25.IsWhole) (arg26 : Memref sig .tc .vmem S8x128x128 .f32) (harg26 : arg26.IsWhole) (arg27 : Memref sig .tc .vmem S8x128x128 .f32) (harg27 : arg27.IsWhole)
    (arg28 : Memref sig .tc .vmem S512x512 .f32) (harg28 : arg28.IsWhole) (arg29 : Memref sig .tc .vmem S640x128 .bf16) (harg29 : arg29.IsWhole) (arg30 : Memref sig .tc .vmem S640x128 .bf16) (harg30 : arg30.IsWhole)
    (arg31 : Memref sig .tc .vmem S640x128 .bf16) (harg31 : arg31.IsWhole) (arg32 : Memref sig .tc .vmem S640x128 .bf16) (harg32 : arg32.IsWhole) (arg33 : Memref sig .tc .vmem S32x1 .f32) (harg33 : arg33.IsWhole)
    (x0 : Vec F S512x1024 .f32) (x1 : Vec F S512x1024 .f32) (x2 : Vec F S8x128x128 .f32) (x3 : Vec F S8x128x128 .f32) (x4 : Vec F S1x1024 .f32)
    (x5 : Vec F S1024x1792 .bf16) (x6 : Vec F S1x512 .f32) (x7 : Vec F S2x256x1 .f32) (x8 : Vec F S2x256x192 .f32) (x9 : Vec F S4x128x128 .f32)
    (x10 : Vec F S128x4 .f32) (x11 : Vec F S1x512 .f32) (x12 : Vec F S1x512 .f32) (x13 : Vec F S1024x1024 .bf16) (x14 : Vec F S1x1024 .f32)
    (x15 : Vec F S32x1024 .f32) (x16 : Vec F S32x1 .f32) (y23 y24 : Vec F S1x128x128 .f32)
    (E : Set ℕ) (K : PUnit → sProp 𝕄),
    iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6 ∗ owns (c : Thread nD τ) arg8 fullShare x7 ∗ owns (c : Thread nD τ) arg9 fullShare x8
          ∗ owns (c : Thread nD τ) arg10 fullShare x9 ∗ owns (c : Thread nD τ) arg11 fullShare x10 ∗ owns (c : Thread nD τ) arg12 fullShare x11
          ∗ owns (c : Thread nD τ) arg13 fullShare x12 ∗ owns (c : Thread nD τ) arg14 fullShare x13 ∗ owns (c : Thread nD τ) arg15 fullShare x14
          ∗ owns (c : Thread nD τ) arg16 fullShare x15 ∗ owns (c : Thread nD τ) arg17 fullShare x16 ∗ (∃ d, owns (c : Thread nD τ) arg18 fullShare d)
          ∗ (∃ d, owns (c : Thread nD τ) arg19 fullShare d) ∗ (∃ d, owns (c : Thread nD τ) arg20 fullShare d) ∗ (∃ d, owns (c : Thread nD τ) arg21 fullShare d)
          ∗ (∃ d, owns (c : Thread nD τ) arg22 fullShare d) ∗ (∃ d, owns (c : Thread nD τ) arg23 fullShare d) ∗ owns (c : Thread nD τ) arg24 fullShare y23
          ∗ owns (c : Thread nD τ) arg25 fullShare y24 ∗ (∃ d, owns (c : Thread nD τ) arg26 fullShare d) ∗ (∃ d, owns (c : Thread nD τ) arg27 fullShare d)
          ∗ (∃ d, owns (c : Thread nD τ) arg28 fullShare d) ∗ (∃ d, owns (c : Thread nD τ) arg29 fullShare d) ∗ (∃ d, owns (c : Thread nD τ) arg30 fullShare d)
          ∗ (∃ d, owns (c : Thread nD τ) arg31 fullShare d) ∗ (∃ d, owns (c : Thread nD τ) arg32 fullShare d) ∗ (∃ d, owns (c : Thread nD τ) arg33 fullShare d)
          ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6 ∗ owns (c : Thread nD τ) arg8 fullShare x7 ∗ owns (c : Thread nD τ) arg9 fullShare x8
          ∗ owns (c : Thread nD τ) arg10 fullShare x9 ∗ owns (c : Thread nD τ) arg11 fullShare x10 ∗ owns (c : Thread nD τ) arg12 fullShare x11
          ∗ owns (c : Thread nD τ) arg13 fullShare x12 ∗ owns (c : Thread nD τ) arg14 fullShare x13 ∗ owns (c : Thread nD τ) arg15 fullShare x14
          ∗ owns (c : Thread nD τ) arg16 fullShare x15 ∗ owns (c : Thread nD τ) arg17 fullShare x16 ∗ (∃ d, owns (c : Thread nD τ) arg18 fullShare d)
          ∗ (∃ d, owns (c : Thread nD τ) arg19 fullShare d) ∗ (∃ d, owns (c : Thread nD τ) arg20 fullShare d) ∗ (∃ d, owns (c : Thread nD τ) arg21 fullShare d)
          ∗ (∃ d, owns (c : Thread nD τ) arg22 fullShare d) ∗ (∃ d, owns (c : Thread nD τ) arg23 fullShare d) ∗ (∃ d, ⌜Left i (keysOf x0 x4 x5) y23 d⌝ ∗ owns (c : Thread nD τ) arg24 fullShare d)
          ∗ (∃ d, ⌜Left i (valuesOf x0 x4 x5) y24 d⌝ ∗ owns (c : Thread nD τ) arg25 fullShare d) ∗ (∃ d, ⌜cond4 i → d = rolledKeysOf x2 x1 x4 x5⌝ ∗ owns (c : Thread nD τ) arg26 fullShare d)
          ∗ (∃ d, ⌜cond4 i → d = rolledValuesOf x3 x1 x4 x5⌝ ∗ owns (c : Thread nD τ) arg27 fullShare d)
          ∗ (∃ d, ⌜cond4 i → d = gateOf x1 x4 x5 x6⌝ ∗ owns (c : Thread nD τ) arg28 fullShare d) ∗ (∃ d, owns (c : Thread nD τ) arg29 fullShare d) ∗ (∃ d, owns (c : Thread nD τ) arg30 fullShare d)
          ∗ (∃ d, owns (c : Thread nD τ) arg31 fullShare d) ∗ (∃ d, owns (c : Thread nD τ) arg32 fullShare d) ∗ (∃ d, owns (c : Thread nD τ) arg33 fullShare d)) -∗ K ⟨⟩))
      ⊢ wp frame (wpE (defs₀ (F := F)) Variants.none c none) E (cc0_mixer i arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16
      arg17 harg17 arg18 harg18 arg19 harg19 arg20 harg20 arg21 harg21 arg22 harg22 arg23 harg23 arg24 harg24
      arg25 harg25 arg26 harg26 arg27 harg27 arg28 harg28 arg29 harg29 arg30 harg30 arg31 harg31 arg32 harg32
      arg33 harg33) K

set_option maxHeartbeats 20000000 in
/-- Every point runs so, of whichever of the five kinds it is. -/
theorem runs (c : Dev nD) (i : grid0.Coords)
    (kinds : (cond0 i ∧ cond1 i ∧ cond2 i ∧ ¬cond3 i ∧ ¬cond4 i) ∨ (¬cond0 i ∧ cond1 i ∧ ¬cond2 i ∧ ¬cond3 i ∧ ¬cond4 i)
      ∨ (¬cond0 i ∧ cond1 i ∧ ¬cond2 i ∧ cond3 i ∧ ¬cond4 i) ∨ (¬cond0 i ∧ cond1 i ∧ cond2 i ∧ ¬cond3 i ∧ ¬cond4 i)
      ∨ (¬cond0 i ∧ ¬cond1 i ∧ cond4 i)) : Runs (F := F) c i := by
  unfold Runs
  intro arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33
    x0 x1 x2 x3 x4 x5 x6 x7 x8 x9 x10 x11 x12 x13 x14 x15 x16 y23 y24 E K
  simp only [cc0_mixer_eq_skeleton]; unfold cc0_mixer_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩,
    ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%f23, %hf23, H23⟩,
    ⟨%f24, %hf24, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩,
    ⟨%d32, %f32, -, H32⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg24.eq_unread hf23; obtain rfl := harg25.eq_unread hf24
  rcases kinds with ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc4⟩
  all_goals
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton, k0_part19_eq_skeleton, k0_part20_eq_skeleton,
      k0_part21_eq_skeleton, k0_part22_eq_skeleton, k0_part23_eq_skeleton, k0_part24_eq_skeleton, k0_part25_eq_skeleton,
      k0_part26_eq_skeleton, k0_part27_eq_skeleton, k0_part28_eq_skeleton, k0_part29_eq_skeleton, k0_part30_eq_skeleton,
      k0_part31_eq_skeleton, k0_part32_eq_skeleton, k0_part33_eq_skeleton, k0_part34_eq_skeleton, k0_part35_eq_skeleton,
      k0_part36_eq_skeleton, k0_part37_eq_skeleton, k0_part38_eq_skeleton, k0_part39_eq_skeleton, k0_part40_eq_skeleton,
      k0_part41_eq_skeleton, k0_part42_eq_skeleton, k0_part43_eq_skeleton, k0_part44_eq_skeleton, k0_part45_eq_skeleton,
      k0_part46_eq_skeleton, k0_part47_eq_skeleton, k0_part48_eq_skeleton, k0_part49_eq_skeleton, k0_part50_eq_skeleton,
      k0_part51_eq_skeleton, k0_part52_eq_skeleton, k0_part53_eq_skeleton, k0_part54_eq_skeleton, k0_part55_eq_skeleton,
      k0_part56_eq_skeleton, k0_part57_eq_skeleton, k0_part58_eq_skeleton, k0_part59_eq_skeleton, k0_part60_eq_skeleton,
      k0_part61_eq_skeleton, k0_part62_eq_skeleton, k0_part63_eq_skeleton, k0_part64_eq_skeleton, k0_part65_eq_skeleton,
      k0_part66_eq_skeleton, k0_part67_eq_skeleton, k0_part68_eq_skeleton]
    sl_exec (disch := first | sl_exact hc0 | sl_exact hc1 | sl_exact hc2 | sl_exact hc3 | sl_exact hc4)
    sl_step
    iapply Hk
    isplitl [H0]; · iapply (owns_unread harg1); iexact H0
    isplitl [H1]; · iapply (owns_unread harg2); iexact H1
    isplitl [H2]; · iapply (owns_unread harg3); iexact H2
    isplitl [H3]; · iapply (owns_unread harg4); iexact H3
    isplitl [H4]; · iapply (owns_unread harg5); iexact H4
    isplitl [H5]; · iapply (owns_unread harg6); iexact H5
    isplitl [H6]; · iapply (owns_unread harg7); iexact H6
    isplitl [H7]; · iapply (owns_unread harg8); iexact H7
    isplitl [H8]; · iapply (owns_unread harg9); iexact H8
    isplitl [H9]; · iapply (owns_unread harg10); iexact H9
    isplitl [H10]; · iapply (owns_unread harg11); iexact H10
    isplitl [H11]; · iapply (owns_unread harg12); iexact H11
    isplitl [H12]; · iapply (owns_unread harg13); iexact H12
    isplitl [H13]; · iapply (owns_unread harg14); iexact H13
    isplitl [H14]; · iapply (owns_unread harg15); iexact H14
    isplitl [H15]; · iapply (owns_unread harg16); iexact H15
    isplitl [H16]; · iapply (owns_unread harg17); iexact H16
    isplitl [H17]; · iapply owns_some; iexact H17
    isplitl [H18]; · iapply owns_some; iexact H18
    isplitl [H19]; · iapply owns_some; iexact H19
    isplitl [H20]; · iapply owns_some; iexact H20
    isplitl [H21]; · iapply owns_some; iexact H21
    isplitl [H22]; · iapply owns_some; iexact H22
    isplitl [H23]
    · iexists _; isplitr; swap
      · iexists _; isplitr; swap; · iexact H23
        ipureintro; rfl
      · ipureintro
        first
        | exact ⟨fun _ h => absurd h hc3, fun h => absurd h hc4⟩
        | exact ⟨fun h => absurd h hc1, fun _ => harg24.read_unread _⟩
        | exact ⟨fun _ _ => (read_stored _ _ zero3 _ _).trans (keys_of (read_all harg1 zero2 _ _) (read_all harg5 zero2 _ _) (read_all harg6 zero2 _ _)), fun h => absurd h hc4⟩
    isplitl [H24]
    · iexists _; isplitr; swap
      · iexists _; isplitr; swap; · iexact H24
        ipureintro; rfl
      · ipureintro
        first
        | exact ⟨fun _ h => absurd h hc3, fun h => absurd h hc4⟩
        | exact ⟨fun h => absurd h hc1, fun _ => harg25.read_unread _⟩
        | exact ⟨fun _ _ => (read_stored _ _ zero3 _ _).trans (values_of (read_all harg1 zero2 _ _) (read_all harg5 zero2 _ _) (read_all harg6 zero2 _ _)), fun h => absurd h hc4⟩
    isplitl [H25]
    · iexists _; isplitr; swap
      · iexists _; isplitr; swap; · iexact H25
        ipureintro; rfl
      · ipureintro
        first
        | exact fun h => absurd h hc4
        | exact fun _ => read_joined _ _ harg3 _ (key_rows (read_all harg2 zero2 _ _) (read_all harg5 zero2 _ _) (read_all harg6 zero2 _ _)) _ rfl
    isplitl [H26]
    · iexists _; isplitr; swap
      · iexists _; isplitr; swap; · iexact H26
        ipureintro; rfl
      · ipureintro
        first
        | exact fun h => absurd h hc4
        | exact fun _ => read_joined _ _ harg4 _ (value_rows (read_all harg2 zero2 _ _) (read_all harg5 zero2 _ _) (read_all harg6 zero2 _ _)) _ rfl
    isplitl [H27]
    · iexists _; isplitr; swap
      · iexists _; isplitr; swap; · iexact H27
        ipureintro; rfl
      · ipureintro
        first
        | exact fun h => absurd h hc4
        | exact fun _ => (read_stored _ _ zero2 _ _).trans (gate_of (read_all harg2 zero2 _ _) (read_all harg5 zero2 _ _) (read_all harg6 zero2 _ _) (read_all harg7 zero2 _ _))
    isplitl [H28]; · iapply owns_some; iexact H28
    isplitl [H29]; · iapply owns_some; iexact H29
    isplitl [H30]; · iapply owns_some; iexact H30
    isplitl [H31]; · iapply owns_some; iexact H31
    iapply owns_some; iexact H32

end Cert.Kernel2Ideal.Mixer

end
-- ==== Proof.MixerIdeal.Launch.lean ====
module

public import proofs.«01_k».proof.Proof.MixerIdeal.Run
public import proofs.«01_k».proof.Proof.Gen.Kernel2Ideal.Points
public import Idealize.ShloMosaic.Lib.Pipeline.Quiescent
public import Idealize.ShloMosaic.Lib.Pipeline.ArrRel
public import Idealize.ShloMosaic.Lib.Pipeline.Kit
public import Idealize.ShloMosaic.Lib.Claim
public import Idealize.ShloMosaic.Lib.Quiescent
public import Idealize.ShloMosaic.Adequacy
public import Idealize.ShloMosaic.Init

/-! What the pipeline may leave in each window, the obligation of its body, and its launch. -/

set_option maxRecDepth 16384
set_option Elab.async false

@[expose] public noncomputable section

namespace Cert.Kernel2Ideal.Mixer

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each point is of one of five kinds. -/
theorem kinds : ∀ t : Fin grid0.N, let i := grid0.coords t
    (cond0 i ∧ cond1 i ∧ cond2 i ∧ ¬cond3 i ∧ ¬cond4 i) ∨ (¬cond0 i ∧ cond1 i ∧ ¬cond2 i ∧ ¬cond3 i ∧ ¬cond4 i)
      ∨ (¬cond0 i ∧ cond1 i ∧ ¬cond2 i ∧ cond3 i ∧ ¬cond4 i) ∨ (¬cond0 i ∧ cond1 i ∧ cond2 i ∧ ¬cond3 i ∧ ¬cond4 i)
      ∨ (¬cond0 i ∧ ¬cond1 i ∧ cond4 i) := by decide +kernel

/-- The proof data: an input is left as it was found; the windows of the keys and the values hold a stream's last rows once
    its last point has run, and the sample's point leaves them; the window of the gating rows holds the sample's,
    and the sample's windows are rolled. -/
def rdat (c : Dev nD) : RDat τ (Elt F) Unit ℕ (UR sig nD τ) ℕ cfg0 c where
  A w := V m c (Pipeline.arrRef spec0 w)
  after w t := match w with
    | ⟨23, _⟩ => fun Y X => Left (grid0.coords t) (keysOf (iblk m c (0 : Fin 28) t) (iblk m c (4 : Fin 28) t) (iblk m c (5 : Fin 28) t)) Y X
    | ⟨24, _⟩ => fun Y X => Left (grid0.coords t) (valuesOf (iblk m c (0 : Fin 28) t) (iblk m c (4 : Fin 28) t) (iblk m c (5 : Fin 28) t)) Y X
    | ⟨25, _⟩ => fun _ X => cond4 (grid0.coords t) → X = rolledKeysOf (iblk m c (2 : Fin 28) t) (iblk m c (1 : Fin 28) t) (iblk m c (4 : Fin 28) t) (iblk m c (5 : Fin 28) t)
    | ⟨26, _⟩ => fun _ X => cond4 (grid0.coords t) → X = rolledValuesOf (iblk m c (3 : Fin 28) t) (iblk m c (1 : Fin 28) t) (iblk m c (4 : Fin 28) t) (iblk m c (5 : Fin 28) t)
    | ⟨27, _⟩ => fun _ X => cond4 (grid0.coords t) → X = gateOf (iblk m c (1 : Fin 28) t) (iblk m c (4 : Fin 28) t) (iblk m c (5 : Fin 28) t) (iblk m c (6 : Fin 28) t)
    | w => fun Y X => (cfg0.win w).isOut = false → X = Y
  Φ _ := Pipeline.ΦA spec0 c
  q _ := fullShare
  owed _ := 0

/-- An input window is found holding its block. -/
theorem found (c : Dev nD) (w : Fin cfg0.W) (t : Fin cfg0.N) (hw : (cfg0.win w).isOut = false)
    (hclip : ∀ t t' : Fin cfg0.N, (cfg0.win w).index t = (cfg0.win w).index t' → (cfg0.win w).clip (cfg0.grid.coords t) = (cfg0.win w).clip (cfg0.grid.coords t'))
    (hkeep : ∀ t Y X, (rdat m c).after w t Y X → X = Y)
    {B : (cfg0.win w).block.Idx → Elt F (cfg0.win w).elt} (hB : ∀ d, (rdat m c).fetched w t d = B)
    {Y : (cfg0.win w).block.Idx → Elt F (cfg0.win w).elt} (h : (rdat m c).Finds w t Y) : Y = B := by
  obtain ⟨d, hd⟩ := (rdat m c).finds_in_eq_fetched w hw hclip hkeep t Y h
  exact hd.trans (hB d)

/-- What the region holds beside the windows: the scratch buffers at anything, and the generator's register. -/
theorem scratch_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

set_option maxHeartbeats 8000000 in
/-- The body at any point, from the windows at what they may hold. -/
theorem sound (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ bigSep Finset.univ fun w => owns (c : Thread nD τ) ((cfg0.win w).stage (cfg0.slots t w)) fullShare (Y w))
      ⊢ wp frame (wpE (defs₀ (F := F)) Variants.none c none) Set.univ (bodyAt0 t) fun _ =>
          iprop((rdat m c).Φ t.succ ∗ (rdat m c).owesAt () t.succ
            ∗ bigSep Finset.univ fun w => iprop(∃ X, ⌜(rdat m c).after w t (Y w) X⌝ ∗ owns (c : Thread nD τ) ((cfg0.win w).stage (cfg0.slots t w)) fullShare X)) := by
  have e0 : Y (0 : Fin 28) = iblk m c (0 : Fin 28) t := found m c 0 t rfl (fun _ _ _ => rfl) (fun _ _ _ h => h rfl) (fun _ => rfl) (hY 0)
  have e1 : Y (1 : Fin 28) = iblk m c (1 : Fin 28) t := found m c 1 t rfl (fun _ _ _ => rfl) (fun _ _ _ h => h rfl) (fun _ => rfl) (hY 1)
  have e2 : Y (2 : Fin 28) = iblk m c (2 : Fin 28) t := found m c 2 t rfl (fun _ _ _ => rfl) (fun _ _ _ h => h rfl) (fun _ => rfl) (hY 2)
  have e3 : Y (3 : Fin 28) = iblk m c (3 : Fin 28) t := found m c 3 t rfl (fun _ _ _ => rfl) (fun _ _ _ h => h rfl) (fun _ => rfl) (hY 3)
  have e4 : Y (4 : Fin 28) = iblk m c (4 : Fin 28) t := found m c 4 t rfl (fun _ _ _ => rfl) (fun _ _ _ h => h rfl) (fun _ => rfl) (hY 4)
  have e5 : Y (5 : Fin 28) = iblk m c (5 : Fin 28) t := found m c 5 t rfl (fun _ _ _ => rfl) (fun _ _ _ h => h rfl) (fun _ => rfl) (hY 5)
  have e6 : Y (6 : Fin 28) = iblk m c (6 : Fin 28) t := found m c 6 t rfl (fun _ _ _ => rfl) (fun _ _ _ h => h rfl) (fun _ => rfl) (hY 6)
  rw [bigSep_W0, bigSep_W0]
  rw [show (rdat m c).owesAt () t.succ = (rdat m c).owesAt () t.castSucc from rfl, show (rdat m c).Φ t.succ = Pipeline.ΦA spec0 c from rfl,
    show (rdat m c).Φ t.castSucc = Pipeline.ΦA spec0 c from rfl, scratch_eq]
  iintro ⟨⟨⟨S0, S1, S2, S3, S4⟩, Hg⟩, Ho, H0, H1, H2, H3, H4, H5, H6, H7, H8, H9, H10, H11, H12, H13, H14, H15, H16, H17, H18, H19, H20, H21, H22, H23, H24, H25, H26, H27⟩
  iapply (runs c (grid0.coords t) (kinds t)
    (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7)) (st0_8 t) (hstage0_8 ((cfg0.slots t 8).cast nbuf0_8))
    (st0_9 t) (hstage0_9 ((cfg0.slots t 9).cast nbuf0_9)) (st0_10 t) (hstage0_10 ((cfg0.slots t 10).cast nbuf0_10)) (st0_11 t) (hstage0_11 ((cfg0.slots t 11).cast nbuf0_11))
    (st0_12 t) (hstage0_12 ((cfg0.slots t 12).cast nbuf0_12)) (st0_13 t) (hstage0_13 ((cfg0.slots t 13).cast nbuf0_13)) (st0_14 t) (hstage0_14 ((cfg0.slots t 14).cast nbuf0_14))
    (st0_15 t) (hstage0_15 ((cfg0.slots t 15).cast nbuf0_15)) (st0_16 t) (hstage0_16 ((cfg0.slots t 16).cast nbuf0_16)) (st0_17 t) (hstage0_17 ((cfg0.slots t 17).cast nbuf0_17))
    (st0_18 t) (hstage0_18 ((cfg0.slots t 18).cast nbuf0_18)) (st0_19 t) (hstage0_19 ((cfg0.slots t 19).cast nbuf0_19)) (st0_20 t) (hstage0_20 ((cfg0.slots t 20).cast nbuf0_20))
    (st0_21 t) (hstage0_21 ((cfg0.slots t 21).cast nbuf0_21)) (st0_22 t) (hstage0_22 ((cfg0.slots t 22).cast nbuf0_22)) (st0_23 t) (hstage0_23 ((cfg0.slots t 23).cast nbuf0_23))
    (st0_24 t) (hstage0_24 ((cfg0.slots t 24).cast nbuf0_24)) (st0_25 t) (hstage0_25 ((cfg0.slots t 25).cast nbuf0_25)) (st0_26 t) (hstage0_26 ((cfg0.slots t 26).cast nbuf0_26))
    (st0_27 t) (hstage0_27 ((cfg0.slots t 27).cast nbuf0_27)) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Y (0 : Fin 28)) (Y (1 : Fin 28)) (Y (2 : Fin 28)) (Y (3 : Fin 28)) (Y (4 : Fin 28)) (Y (5 : Fin 28)) (Y (6 : Fin 28)) (Y (7 : Fin 28)) (Y (8 : Fin 28)) (Y (9 : Fin 28)) (Y (10 : Fin 28)) (Y (11 : Fin 28)) (Y (12 : Fin 28)) (Y (13 : Fin 28)) (Y (14 : Fin 28)) (Y (15 : Fin 28)) (Y (16 : Fin 28)) (Y (23 : Fin 28)) (Y (24 : Fin 28)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexact H23
  isplitl [H24]; · iexact H24
  isplitl [H25]; · iexists _; iexact H25
  isplitl [H26]; · iexists _; iexact H26
  isplitl [H27]; · iexists _; iexact H27
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, H16, H17, H18, H19, H20, H21, H22, H23, H24, H25, H26, H27, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]
  · iexists _; isplitr; swap; · iexact H0
    ipureintro; exact fun _ => rfl
  isplitl [H1]
  · iexists _; isplitr; swap; · iexact H1
    ipureintro; exact fun _ => rfl
  isplitl [H2]
  · iexists _; isplitr; swap; · iexact H2
    ipureintro; exact fun _ => rfl
  isplitl [H3]
  · iexists _; isplitr; swap; · iexact H3
    ipureintro; exact fun _ => rfl
  isplitl [H4]
  · iexists _; isplitr; swap; · iexact H4
    ipureintro; exact fun _ => rfl
  isplitl [H5]
  · iexists _; isplitr; swap; · iexact H5
    ipureintro; exact fun _ => rfl
  isplitl [H6]
  · iexists _; isplitr; swap; · iexact H6
    ipureintro; exact fun _ => rfl
  isplitl [H7]
  · iexists _; isplitr; swap; · iexact H7
    ipureintro; exact fun _ => rfl
  isplitl [H8]
  · iexists _; isplitr; swap; · iexact H8
    ipureintro; exact fun _ => rfl
  isplitl [H9]
  · iexists _; isplitr; swap; · iexact H9
    ipureintro; exact fun _ => rfl
  isplitl [H10]
  · iexists _; isplitr; swap; · iexact H10
    ipureintro; exact fun _ => rfl
  isplitl [H11]
  · iexists _; isplitr; swap; · iexact H11
    ipureintro; exact fun _ => rfl
  isplitl [H12]
  · iexists _; isplitr; swap; · iexact H12
    ipureintro; exact fun _ => rfl
  isplitl [H13]
  · iexists _; isplitr; swap; · iexact H13
    ipureintro; exact fun _ => rfl
  isplitl [H14]
  · iexists _; isplitr; swap; · iexact H14
    ipureintro; exact fun _ => rfl
  isplitl [H15]
  · iexists _; isplitr; swap; · iexact H15
    ipureintro; exact fun _ => rfl
  isplitl [H16]
  · iexists _; isplitr; swap; · iexact H16
    ipureintro; exact fun _ => rfl
  isplitl [H17]
  · icases H17 with ⟨%d, H17⟩; iexists d; isplitr; swap; · iexact H17
    ipureintro; exact fun h => absurd h (by decide)
  isplitl [H18]
  · icases H18 with ⟨%d, H18⟩; iexists d; isplitr; swap; · iexact H18
    ipureintro; exact fun h => absurd h (by decide)
  isplitl [H19]
  · icases H19 with ⟨%d, H19⟩; iexists d; isplitr; swap; · iexact H19
    ipureintro; exact fun h => absurd h (by decide)
  isplitl [H20]
  · icases H20 with ⟨%d, H20⟩; iexists d; isplitr; swap; · iexact H20
    ipureintro; exact fun h => absurd h (by decide)
  isplitl [H21]
  · icases H21 with ⟨%d, H21⟩; iexists d; isplitr; swap; · iexact H21
    ipureintro; exact fun h => absurd h (by decide)
  isplitl [H22]
  · icases H22 with ⟨%d, H22⟩; iexists d; isplitr; swap; · iexact H22
    ipureintro; exact fun h => absurd h (by decide)
  isplitl [H23]
  · icases H23 with ⟨%d, %hd, H23⟩; iexists d; isplitr; swap; · iexact H23
    ipureintro; rw [e0, e4, e5] at hd; exact hd
  isplitl [H24]
  · icases H24 with ⟨%d, %hd, H24⟩; iexists d; isplitr; swap; · iexact H24
    ipureintro; rw [e0, e4, e5] at hd; exact hd
  isplitl [H25]
  · icases H25 with ⟨%d, %hd, H25⟩; iexists d; isplitr; swap; · iexact H25
    ipureintro; rw [e1, e2, e4, e5] at hd; exact hd
  isplitl [H26]
  · icases H26 with ⟨%d, %hd, H26⟩; iexists d; isplitr; swap; · iexact H26
    ipureintro; rw [e1, e3, e4, e5] at hd; exact hd
  icases H27 with ⟨%d, %hd, H27⟩; iexists d; isplitr; swap; · iexact H27
  ipureintro; rw [e1, e4, e5, e6] at hd; exact hd

/-- The body's obligation. -/
theorem body_obligation (c : Dev nD) : (rdat m c).BodyObligation (defs₀ (F := F)) Variants.none () Set.univ := fun t Y hY => by
  exact triple_restated (sound m c t Y hY) rfl .rfl fun _ => .rfl

/-- From any memory each execution terminates, with every array at something that the proof data allow and every semaphore
    counter at zero. -/
theorem run_main : θ_run (defs (F := F)) (onTc (τ := τ) (main (F := F))) (s₀ m ρ)
    (fun r => RDat.FramePost (cfgs 0) (rdat m) (V m) r ∧ r.2.sem = fun _ => 0) :=
  RDat.θ_run_frame cfgs (0 : Fin 1) launch0 defs₀ Variants.none (rdat m) m ρ main
    (hbody := body_obligation m) (hshare := fun c w => by unfold RDat.share; split <;> rfl) (howed := fun _ _ => rfl)
    (V := V m) (hmain := hmain m Variants.none) (hA := fun _ _ => rfl) (hΦ := fun _ _ => rfl)
    (Q' := fun r => RDat.FramePost (cfgs 0) (rdat m) (V m) r ∧ r.2.sem = fun _ => 0) (hQ' := fun _ h => h)

/-- Each execution terminates with the arguments as they were and every semaphore counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    ((h.1 c).2 main_arg10 (Pipeline.mem_restRefs_of main_arg10 (by decide) (by decide))).trans (V_main_arg10 m c),
    ((h.1 c).2 main_arg11 (Pipeline.mem_restRefs_of main_arg11 (by decide) (by decide))).trans (V_main_arg11 m c),
    ((h.1 c).2 main_arg12 (Pipeline.mem_restRefs_of main_arg12 (by decide) (by decide))).trans (V_main_arg12 m c),
    ((h.1 c).2 main_arg13 (Pipeline.mem_restRefs_of main_arg13 (by decide) (by decide))).trans (V_main_arg13 m c),
    ((h.1 c).2 main_arg14 (Pipeline.mem_restRefs_of main_arg14 (by decide) (by decide))).trans (V_main_arg14 m c),
    ((h.1 c).2 main_arg15 (Pipeline.mem_restRefs_of main_arg15 (by decide) (by decide))).trans (V_main_arg15 m c)⟩, h.2⟩)
    (run_main m ρ)

end Cert.Kernel2Ideal.Mixer

end
-- ==== Proof.MixerIdeal.Operands.lean ====
module

public import proofs.«01_k».proof.Proof.Gen.Kernel2Ideal.Frame
public import Idealize.ShloMosaic.Lib.StableHlo.Run
public import Idealize.ShloMosaic.Lib.Pointwise
public import Idealize.ShloMosaic.Lib.Pipeline.Value

/-! The blocks that the launch finds, over the kernel's arguments: a block of the prompt's rows, the sample's rows and
    windows, the weights of the row scaling, the input weights, and the weights of the gating rows' scaling. -/

set_option maxRecDepth 16384
set_option Elab.async false

@[expose] public noncomputable section

namespace Cert.Kernel2Ideal.Mixer

open Cert.Kernel2Ideal Cert.Kernel2Ideal.Gen
open Idealize.ShloMosaic
open Idealize.ShloMosaic.TcCoe Idealize.ShloMosaic.Tactic
open Idealize.SL Idealize.SL.Sem

variable (m : (ℓ : Loc nD τ sig) → Buf (Elt Ideal) ℓ) (c : Dev nD)

/-- The arguments in their literal shapes. -/
abbrev prompt : S2x8192x1024.Idx → Ideal .f32 := m ((c : Thread nD τ).loc main_arg0)
abbrev sample : S8x64x1024.Idx → Ideal .f32 := m ((c : Thread nD τ).loc main_arg1)
abbrev keyCache : S1x8x128x2x64.Idx → Ideal .f32 := m ((c : Thread nD τ).loc main_arg2)
abbrev valueCache : S1x8x128x2x64.Idx → Ideal .f32 := m ((c : Thread nD τ).loc main_arg3)
abbrev norm : S1x1024.Idx → Ideal .f32 := m ((c : Thread nD τ).loc main_arg4)
abbrev inputWeights : S1x1024x1792.Idx → Ideal .f32 := m ((c : Thread nD τ).loc main_arg5)
abbrev gateNorm : S1x4x128.Idx → Ideal .f32 := m ((c : Thread nD τ).loc main_arg6)

/-- The operands that the host computes from them. -/
theorem operand0 : V m c main_v54 = shapeCast S16384x1024 (prompt m c) shapeCasts_S2x8192x1024_S16384x1024 := by
  unfold V prompt; after_results_simp <;> rfl
theorem operand1 : V m c main_v55 = shapeCast S512x1024 (sample m c) shapeCasts_S8x64x1024_S512x1024 := by
  unfold V sample; after_results_simp <;> rfl
theorem operand2 : V m c main_v57 = shapeCast S8x128x128 (shapeCast S8x128x2x64 (keyCache m c) shapeCasts_S1x8x128x2x64_S8x128x2x64) shapeCasts_S8x128x2x64_S8x128x128 := by
  unfold V keyCache; after_results_simp <;> rfl
theorem operand3 : V m c main_v59 = shapeCast S8x128x128 (shapeCast S8x128x2x64 (valueCache m c) shapeCasts_S1x8x128x2x64_S8x128x2x64) shapeCasts_S8x128x2x64_S8x128x128 := by
  unfold V valueCache; after_results_simp <;> rfl
theorem operand4 : V m c main_v1 = shapeCast S1x1024 (shapeCast S1024 (norm m c) shapeCasts_S1x1024_S1024) shapeCasts_S1024_S1x1024 := by
  unfold V norm; after_results_simp <;> rfl
theorem operand5 : V m c main_v3 = shapeCast S1024x1792 (inputWeights m c) shapeCasts_S1x1024x1792_S1024x1792 := by
  unfold V inputWeights; after_results_simp <;> rfl
theorem operand6 : V m c main_v5 = shapeCast S1x512 (shapeCast S4x128 (gateNorm m c) shapeCasts_S1x4x128_S4x128) shapeCasts_S4x128_S1x512 := by
  unfold V gateNorm; after_results_simp <;> rfl

/-- The blocks' places. -/
theorem place0 : ∀ t : Fin grid0.N, cc0_transform_0 (grid0.coords t) 0 = min t.val 31 := by decide +kernel

/-- A block of the prompt's rows; -/
theorem block0 (t : Fin cfg0.N) (r : Fin 512) (k : Fin 1024) (b : Fin 2) (p : Fin 8192) (h : b.val * 8192 + p.val = min t.val 31 * 512 + r.val) :
    iblk m c (0 : Fin 28) t (ix2 r k : S512x1024.Idx) = prompt m c (ix3 b p k) := by
  refine (congrFun (operand0 m c) _).trans (shapeCast_apply _ _ _ _ ?_)
  rw [Shape.rowMajor_val_three, Shape.rowMajor_val_two]
  show (b.val * 8192 + p.val) * 1024 + k.val = (cc0_transform_0 (grid0.coords t) 0 * 512 + 1 * r.val) * 1024 + (0 * 1024 + 1 * k.val)
  rw [place0 t]
  omega

/-- the sample's rows. -/
theorem block1 (t : Fin cfg0.N) (r : Fin 512) (k : Fin 1024) :
    iblk m c (1 : Fin 28) t (ix2 r k : S512x1024.Idx) = sample m c (ix3 (⟨r.val / 64, by omega⟩ : Fin 8) (⟨r.val % 64, by omega⟩ : Fin 64) k) := by
  refine (congrFun (operand1 m c) _).trans (shapeCast_apply _ _ _ _ ?_)
  rw [Shape.rowMajor_val_three, Shape.rowMajor_val_two]
  show (r.val / 64 * 64 + r.val % 64) * 1024 + k.val = (0 * 512 + 1 * r.val) * 1024 + (0 * 1024 + 1 * k.val)
  omega

/-- The windows as the host passes them, each row's two heads one after the other; -/
theorem heads_flat (y : S1x8x128x2x64.Idx → Ideal .f32) (b : Fin 8) (r j : Fin 128) :
    shapeCast S8x128x128 (shapeCast S8x128x2x64 y shapeCasts_S1x8x128x2x64_S8x128x2x64) shapeCasts_S8x128x2x64_S8x128x128 (ix3 b r j)
      = y (ix5 (0 : Fin 1) b r (⟨j.val / 64, by omega⟩ : Fin 2) (⟨j.val % 64, by omega⟩ : Fin 64)) := by
  refine (shapeCast_apply _ _ _ (ix4 b r (⟨j.val / 64, by omega⟩ : Fin 2) (⟨j.val % 64, by omega⟩ : Fin 64)) ?_).trans (shapeCast_apply _ _ _ _ ?_)
  · rw [Shape.rowMajor_val_four, Shape.rowMajor_val_three]
    show ((b.val * 128 + r.val) * 2 + j.val / 64) * 64 + j.val % 64 = (b.val * 128 + r.val) * 128 + j.val
    omega
  · rw [Shape.rowMajor_val_five, Shape.rowMajor_val_four]
    show (((0 * 8 + b.val) * 128 + r.val) * 2 + j.val / 64) * 64 + j.val % 64 = ((b.val * 128 + r.val) * 2 + j.val / 64) * 64 + j.val % 64
    omega

/-- the sample's windows of keys and of values; -/
theorem block2 (t : Fin cfg0.N) (b : Fin 8) (r j : Fin 128) :
    iblk m c (2 : Fin 28) t (ix3 b r j : S8x128x128.Idx) = keyCache m c (ix5 (0 : Fin 1) b r (⟨j.val / 64, by omega⟩ : Fin 2) (⟨j.val % 64, by omega⟩ : Fin 64)) := by
  refine (congrFun (operand2 m c) _).trans (Eq.trans (congrArg _ (funext fun a => Fin.ext ?_)) (heads_flat (keyCache m c) b r j))
  fin_cases a
  · show 0 * 8 + 1 * b.val = b.val
    omega
  · show 0 * 128 + 1 * r.val = r.val
    omega
  · show 0 * 128 + 1 * j.val = j.val
    omega
theorem block3 (t : Fin cfg0.N) (b : Fin 8) (r j : Fin 128) :
    iblk m c (3 : Fin 28) t (ix3 b r j : S8x128x128.Idx) = valueCache m c (ix5 (0 : Fin 1) b r (⟨j.val / 64, by omega⟩ : Fin 2) (⟨j.val % 64, by omega⟩ : Fin 64)) := by
  refine (congrFun (operand3 m c) _).trans (Eq.trans (congrArg _ (funext fun a => Fin.ext ?_)) (heads_flat (valueCache m c) b r j))
  fin_cases a
  · show 0 * 8 + 1 * b.val = b.val
    omega
  · show 0 * 128 + 1 * r.val = r.val
    omega
  · show 0 * 128 + 1 * j.val = j.val
    omega

/-- the weights of the row scaling; -/
theorem block4 (t : Fin cfg0.N) (k : Fin 1024) : iblk m c (4 : Fin 28) t (ix2 (0 : Fin 1) k : S1x1024.Idx) = norm m c (ix2 (0 : Fin 1) k) := by
  refine (congrFun (operand4 m c) _).trans ((shapeCast_apply _ _ _ (ix1 k : S1024.Idx) ?_).trans (shapeCast_apply _ _ _ _ ?_))
  · rw [Shape.rowMajor_val_one, Shape.rowMajor_val_two]
    show k.val = (0 * 1 + 1 * 0) * 1024 + (0 * 1024 + 1 * k.val)
    omega
  · rw [Shape.rowMajor_val_one, Shape.rowMajor_val_two]
    show 0 * 1024 + k.val = k.val
    omega

/-- the input weights; -/
theorem block5 (t : Fin cfg0.N) (k : Fin 1024) (n : Fin 1792) :
    iblk m c (5 : Fin 28) t (ix2 k n : S1024x1792.Idx) = inputWeights m c (ix3 (0 : Fin 1) k n) := by
  refine (congrFun (operand5 m c) _).trans (shapeCast_apply _ _ _ _ ?_)
  rw [Shape.rowMajor_val_three, Shape.rowMajor_val_two]
  show (0 * 1024 + k.val) * 1792 + n.val = (0 * 1024 + 1 * k.val) * 1792 + (0 * 1792 + 1 * n.val)
  omega

/-- the weights of the gating rows' scaling. -/
theorem block6 (t : Fin cfg0.N) (e : Fin 512) :
    iblk m c (6 : Fin 28) t (ix2 (0 : Fin 1) e : S1x512.Idx) = gateNorm m c (ix3 (0 : Fin 1) (⟨e.val / 128, by omega⟩ : Fin 4) (⟨e.val % 128, by omega⟩ : Fin 128)) := by
  refine (congrFun (operand6 m c) _).trans ((shapeCast_apply _ _ _ (ix2 (⟨e.val / 128, by omega⟩ : Fin 4) (⟨e.val % 128, by omega⟩ : Fin 128) : S4x128.Idx) ?_).trans
    (shapeCast_apply _ _ _ _ ?_))
  · rw [Shape.rowMajor_val_two, Shape.rowMajor_val_two]
    show e.val / 128 * 128 + e.val % 128 = (0 * 1 + 1 * 0) * 512 + (0 * 512 + 1 * e.val)
    omega
  · rw [Shape.rowMajor_val_three, Shape.rowMajor_val_two]
    show (0 * 4 + e.val / 128) * 128 + e.val % 128 = e.val / 128 * 128 + e.val % 128
    omega

end Cert.Kernel2Ideal.Mixer

end
-- ==== Proof.Mixer.Spec.lean ====
module

public import Idealize.ShloMosaic.PureOps.Ideal

/-! What the mixer's call and its reference both compute, over the extended reals: a row scaled to unit mean square, its
    projection, and the gating unit. -/

@[expose] public noncomputable section

namespace Cert.Mixer

open Idealize.ShloMosaic

/-- A row of `n` numbers divided by the root of its mean square, times the weights `g`; `d` is the word of `n`. -/
def scaled {n : ℕ} (d : BitVec 32) (x g : Fin n → EReal) (k : Fin n) : EReal :=
  x k * Ideal.rsqrt (Ideal.div (∑ j, x j * x j) (Ideal.ofBits .f32 d) + Ideal.ofBits .f32 0x3727C5AC#32) * g k

/-- Column `n` of a scaled row's product with the input weights. -/
def project (x g : Fin 1024 → EReal) (w : Fin 1024 → Fin 1792 → EReal) (n : Fin 1792) : EReal :=
  ∑ k, scaled 0x44800000#32 x g k * w k n

/-- The smooth unit `z (1 + erf (z / √2)) / 2`. -/
def smooth (z : EReal) : EReal :=
  Ideal.ofBits .f32 0x3F000000#32 * z * (1 + Ideal.erf (z * Ideal.ofBits .f32 0x3F3504F3#32))

/-- Column `128 h + d` of a gating row: head `h`'s smooth units, scaled. -/
def gating (x g : Fin 1024 → EReal) (w : Fin 1024 → Fin 1792 → EReal) (s : Fin 512 → EReal) (h : Fin 4) (d : Fin 128) : EReal :=
  scaled 0x43000000#32 (fun e : Fin 128 => smooth (project x g w ⟨1280 + (h.val * 128 + e.val), by omega⟩))
    (fun e => s ⟨h.val * 128 + e.val, by omega⟩) d

end Cert.Mixer

end
-- ==== Proof.MixerIdeal.Rows.lean ====
module

public import proofs.«01_k».proof.Proof.MixerIdeal.Run
public import proofs.«01_k».proof.Proof.Mixer.Spec
public import Idealize.ShloMosaic.Lib.Pointwise

/-! The kernel's stored keys, values, gating rows and rolled windows read at an index. -/

set_option maxRecDepth 16384

@[expose] public noncomputable section

namespace Cert.Kernel2Ideal.Mixer

open Cert.Kernel2Ideal Cert.Kernel2Ideal.Gen Cert.Mixer
open Idealize.ShloMosaic

variable (x : Vec Ideal S512x1024 .f32) (g : Vec Ideal S1x1024 .f32) (w : Vec Ideal S1024x1792 .bf16) (s : Vec Ideal S1x512 .f32)

/-- Row `r` of a block's rows. -/
abbrev rowOf (r : Fin 512) (k : Fin 1024) : EReal := x (ix2 r k)
/-- The weights of the row scaling. -/
abbrev scaleOf (k : Fin 1024) : EReal := g (ix2 (0 : Fin 1) k)
/-- The input weights. -/
abbrev weightsOf (k : Fin 1024) (n : Fin 1792) : EReal := w (ix2 k n)

/-- A prompt block's projection. -/
theorem prompt_apply (r : Fin 512) (n : Fin 1792) : k0_pay14 x g w (ix2 r n) = project (rowOf x r) (scaleOf g) (weightsOf w) n := by
  pointwise [k0_pay14, k0_pay13]
  rfl

/-- The sample's projection. -/
theorem sample_apply (r : Fin 512) (n : Fin 1792) : k0_pay211 x g w (ix2 r n) = project (rowOf x r) (scaleOf g) (weightsOf w) n := by
  pointwise [k0_pay211, k0_pay210]
  rfl

/-- The stored keys and values: the last 128 rows of columns 512 to 639 and 640 to 767. -/
theorem keys_apply (r j : Fin 128) :
    keysOf x g w (ix3 (0 : Fin 1) r j) = project (rowOf x ⟨384 + r.val, by omega⟩) (scaleOf g) (weightsOf w) ⟨512 + j.val, by omega⟩ := by
  rw [← prompt_apply]
  pointwise [keysOf, k0_pay29, k0_pay16]
theorem values_apply (r j : Fin 128) :
    valuesOf x g w (ix3 (0 : Fin 1) r j) = project (rowOf x ⟨384 + r.val, by omega⟩) (scaleOf g) (weightsOf w) ⟨640 + j.val, by omega⟩ := by
  rw [← prompt_apply]
  pointwise [valuesOf, k0_pay30, k0_pay17]

/-- The sample's new keys and values. -/
theorem new_keys_apply (r : Fin 512) (j : Fin 128) : k0_pay213 x g w (ix2 r j) = project (rowOf x r) (scaleOf g) (weightsOf w) ⟨512 + j.val, by omega⟩ := by
  rw [← sample_apply]
  pointwise [k0_pay213]
theorem new_values_apply (r : Fin 512) (j : Fin 128) : k0_pay214 x g w (ix2 r j) = project (rowOf x r) (scaleOf g) (weightsOf w) ⟨640 + j.val, by omega⟩ := by
  rw [← sample_apply]
  pointwise [k0_pay214]

/-- The sample's smooth units. -/
theorem smooth_apply (r n : Fin 512) :
    k0_pay216 x g w (ix2 r n) = smooth (project (rowOf x r) (scaleOf g) (weightsOf w) ⟨1280 + n.val, by omega⟩) := by
  rw [← sample_apply]
  pointwise [k0_pay216]
  rfl

/-- The stored gating rows. -/
theorem gate_apply (r : Fin 512) (h : Fin 4) (d : Fin 128) :
    gateOf x g w s (ix2 r ⟨h.val * 128 + d.val, by omega⟩)
      = gating (rowOf x r) (scaleOf g) (weightsOf w) (fun e => s (ix2 (0 : Fin 1) e)) h d := by
  have hd := d.isLt
  unfold gating
  fin_cases h
  all_goals
    pointwise [gateOf, k0_pay224, k0_pay223, k0_pay222, k0_pay221, k0_pay220, k0_pay219, k0_pay218, k0_pay217, scaled]
  · simp only [smooth_apply]
  · simp only [smooth_apply]
  · rw [dif_neg (show ¬ 256 + d.val < 128 by omega), dif_neg (show ¬ 256 + d.val - 128 < 128 by omega), dif_pos (show 256 + d.val - 128 - 128 < 128 by omega)]
    simp only [show 256 + d.val - 128 - 128 = d.val by omega, smooth_apply]
  · rw [dif_neg (show ¬ 384 + d.val < 128 by omega), dif_neg (show ¬ 384 + d.val - 128 < 128 by omega), dif_neg (show ¬ 384 + d.val - 128 - 128 < 128 by omega)]
    simp only [show 384 + d.val - 128 - 128 - 128 = d.val by omega, smooth_apply]

end Cert.Kernel2Ideal.Mixer

end
-- ==== Proof.MixerIdeal.Value.lean ====
module

public import proofs.«01_k».proof.Proof.MixerIdeal.Launch
public import proofs.«01_k».proof.Proof.MixerIdeal.Operands
public import proofs.«01_k».proof.Proof.MixerIdeal.Rows
public import Idealize.ShloMosaic.Lib.Pipeline.ArrRel
public import Idealize.ShloMosaic.Lib.Pipeline.ValueKit.Geometry

/-! What the arrays of the keys, the values, the gating rows and the sample's rolled windows end holding, over the kernel's arguments. -/

set_option maxRecDepth 16384

@[expose] public noncomputable section

namespace Cert.Kernel2Ideal.Mixer

open Cert.Kernel2Ideal Cert.Kernel2Ideal.Gen Cert.Mixer
open Idealize.ShloMosaic Idealize.ShloMosaic.TcCoe Idealize.SL.Sem
open Idealize.ShloMosaic.Pipeline (Dat RDat Cfg Window)

variable (m : (ℓ : Loc nD τ sig) → Buf (Elt Ideal) ℓ) (ρ : Dev nD → PrngReg) (c : Dev nD)

/-- The keys and the values of the prompt's last rows: columns from `lo` on of the projection. -/
def lastRows (lo : ℕ) (hlo : lo + 128 ≤ 1792) : S2x128x128.Idx → Ideal .f32 := fun i =>
  have h1 : (i 1).val < 128 := (i 1).isLt
  have h2 : (i 2).val < 128 := (i 2).isLt
  project (fun k => prompt m c (ix3 (i 0) ⟨8064 + (i 1).val, by omega⟩ k)) (fun k => norm m c (ix2 (0 : Fin 1) k))
    (fun k n => inputWeights m c (ix3 (0 : Fin 1) k n)) ⟨lo + (i 2).val, by omega⟩

/-- The sample's gating rows. -/
def gatingRows : S512x512.Idx → Ideal .f32 := fun i =>
  have h0 : (i 0).val < 512 := (i 0).isLt
  have h1 : (i 1).val < 512 := (i 1).isLt
  gating (fun k => sample m c (ix3 (⟨(i 0).val / 64, by omega⟩ : Fin 8) (⟨(i 0).val % 64, by omega⟩ : Fin 64) k)) (fun k => norm m c (ix2 (0 : Fin 1) k))
    (fun k n => inputWeights m c (ix3 (0 : Fin 1) k n))
    (fun e => gateNorm m c (ix3 (0 : Fin 1) (⟨e.val / 128, by omega⟩ : Fin 4) (⟨e.val % 128, by omega⟩ : Fin 128)))
    ⟨(i 1).val / 128, by omega⟩ ⟨(i 1).val % 128, by omega⟩

/-- The sample's rolled windows: of each stream the window's last 64 rows, and the projections of its 64 new rows, columns from `lo` on. -/
def rolled (cache : S1x8x128x2x64.Idx → Ideal .f32) (lo : ℕ) (hlo : lo + 128 ≤ 1792) : S8x128x128.Idx → Ideal .f32 := fun i =>
  have h1 : (i 1).val < 128 := (i 1).isLt
  have h2 : (i 2).val < 128 := (i 2).isLt
  if h : (i 1).val < 64 then
    cache (ix5 (0 : Fin 1) (i 0) (⟨64 + (i 1).val, by omega⟩ : Fin 128) (⟨(i 2).val / 64, by omega⟩ : Fin 2) (⟨(i 2).val % 64, by omega⟩ : Fin 64))
  else project (fun k => sample m c (ix3 (i 0) (⟨(i 1).val - 64, by omega⟩ : Fin 64) k)) (fun k => norm m c (ix2 (0 : Fin 1) k))
    (fun k n => inputWeights m c (ix3 (0 : Fin 1) k n)) ⟨lo + (i 2).val, by omega⟩

/-- The points' kinds, and the write-backs. -/
theorem last_kind : ∀ t : Fin grid0.N, t.val = 15 ∨ t.val = 31 → cond1 (grid0.coords t) ∧ cond3 (grid0.coords t) := by decide +kernel
theorem sample_kind : ∀ t : Fin grid0.N, t.val = 32 → cond4 (grid0.coords t) := by decide +kernel
theorem written23 : ∀ t : Fin cfg0.N, (cfg0.win 23).flush t = true → t.val = 15 ∨ t.val = 32 := by decide +kernel
theorem written24 : ∀ t : Fin cfg0.N, (cfg0.win 24).flush t = true → t.val = 15 ∨ t.val = 32 := by decide +kernel
theorem written25 : ∀ t : Fin cfg0.N, (cfg0.win 25).flush t = true → t.val = 32 := by decide +kernel
theorem written26 : ∀ t : Fin cfg0.N, (cfg0.win 26).flush t = true → t.val = 32 := by decide +kernel
theorem written27 : ∀ t : Fin cfg0.N, (cfg0.win 27).flush t = true → t.val = 32 := by decide +kernel
theorem kept23 : ∀ t : Fin cfg0.N, t.val = 31 → (cfg0.win 23).flush t = false := by decide +kernel
theorem kept24 : ∀ t : Fin cfg0.N, t.val = 31 → (cfg0.win 24).flush t = false := by decide +kernel
theorem place23 : ∀ t : Fin grid0.N, t.val = 15 ∨ t.val = 32 → cc0_transform_23 (grid0.coords t) 0 = t.val / 16 - t.val / 32 := by decide +kernel
theorem place24 : ∀ t : Fin grid0.N, t.val = 15 ∨ t.val = 32 → cc0_transform_24 (grid0.coords t) 0 = t.val / 16 - t.val / 32 := by decide +kernel

/-- The point that computed what point `t` writes back: itself, but for the sample's the one before. -/
abbrev origin (t : Fin cfg0.N) : Fin cfg0.N := if h : t.val = 32 then ⟨31, by decide⟩ else t

/-- What a write-back writes is what its stream's last point stored. -/
theorem written_eq (L : Fin cfg0.N → Vec Ideal S1x128x128 .f32 → Prop) (v : Fin cfg0.N → Vec Ideal S1x128x128 .f32)
    (hL : ∀ t X, L t X → ∃ Y, (∀ h : t.val = 32, L ⟨31, by decide⟩ Y) ∧ Left (grid0.coords t) (v t) Y X)
    (t : Fin cfg0.N) (ht : t.val = 15 ∨ t.val = 32) (X : Vec Ideal S1x128x128 .f32) (h : L t X) : X = v (origin t) := by
  obtain ⟨Y, hY, hX⟩ := hL t X h
  by_cases h32 : t.val = 32
  · obtain ⟨Z, -, hZ⟩ := hL _ Y (hY h32)
    have h31 := last_kind ⟨31, by decide⟩ (Or.inr rfl)
    rw [origin, dif_pos h32]
    exact (hX.2 (sample_kind t h32)).trans (hZ.1 h31.1 h31.2)
  · rw [origin, dif_neg h32]
    have h15 := last_kind t (Or.inl (ht.resolve_right h32))
    exact hX.1 h15.1 h15.2

theorem leaves23 (t : Fin cfg0.N) (X : Vec Ideal S1x128x128 .f32) (h : (rdat m c).Leaves (23 : Fin 28) t X) :
    ∃ Y, (∀ h : t.val = 32, (rdat m c).Leaves (23 : Fin 28) ⟨31, by decide⟩ Y)
      ∧ Left (grid0.coords t) (keysOf (iblk m c (0 : Fin 28) t) (iblk m c (4 : Fin 28) t) (iblk m c (5 : Fin 28) t)) Y X := by
  obtain ⟨Y, hF, hA⟩ := h
  refine ⟨Y, fun h => ?_, hA⟩
  obtain ⟨n, hn⟩ := t
  obtain rfl : n = 32 := h
  refine (((rdat m c).finds_of_pos (w := (23 : Fin 28)) rfl (show (32 : ℕ) ≠ 0 by decide) Y).mp hF).resolve_left fun hf => ?_
  exact absurd (hf.symm.trans (kept23 _ rfl)) (by decide)
theorem leaves24 (t : Fin cfg0.N) (X : Vec Ideal S1x128x128 .f32) (h : (rdat m c).Leaves (24 : Fin 28) t X) :
    ∃ Y, (∀ h : t.val = 32, (rdat m c).Leaves (24 : Fin 28) ⟨31, by decide⟩ Y)
      ∧ Left (grid0.coords t) (valuesOf (iblk m c (0 : Fin 28) t) (iblk m c (4 : Fin 28) t) (iblk m c (5 : Fin 28) t)) Y X := by
  obtain ⟨Y, hF, hA⟩ := h
  refine ⟨Y, fun h => ?_, hA⟩
  obtain ⟨n, hn⟩ := t
  obtain rfl : n = 32 := h
  refine (((rdat m c).finds_of_pos (w := (24 : Fin 28)) rfl (show (32 : ℕ) ≠ 0 by decide) Y).mp hF).resolve_left fun hf => ?_
  exact absurd (hf.symm.trans (kept24 _ rfl)) (by decide)

/-- The blocks by rows: the last rows of the block that point `t`'s write-back came from, and the weights. -/
theorem origin_rows (t : Fin cfg0.N) (ht : t.val = 15 ∨ t.val = 32) (r : Fin 128) (b : Fin 2) (hb : b.val = t.val / 16 - t.val / 32) :
    rowOf (iblk m c (0 : Fin 28) (origin t)) ⟨384 + r.val, by omega⟩ = fun k => prompt m c (ix3 b ⟨8064 + r.val, by omega⟩ k) := by
  refine funext fun k => block0 m c (origin t) _ k b _ ?_
  show b.val * 8192 + (8064 + r.val) = min (origin t).val 31 * 512 + (384 + r.val)
  rcases ht with h | h
  · rw [origin, dif_neg (by omega), hb, h]; omega
  · rw [origin, dif_pos h, hb, h]; show (32 / 16 - 32 / 32) * 8192 + (8064 + r.val) = min 31 31 * 512 + (384 + r.val); omega
theorem scale_rows (t : Fin cfg0.N) : scaleOf (iblk m c (4 : Fin 28) t) = fun k => norm m c (ix2 (0 : Fin 1) k) := funext fun k => block4 m c t k
theorem weight_rows (t : Fin cfg0.N) : weightsOf (iblk m c (5 : Fin 28) t) = fun k n => inputWeights m c (ix3 (0 : Fin 1) k n) :=
  funext fun k => funext fun n => block5 m c t k n

/-- The places of the written blocks. -/
theorem emb23 (t : Fin cfg0.N) (ht : t.val = 15 ∨ t.val = 32) (r j : Fin 128) (b : Fin 2) (hb : b.val = t.val / 16 - t.val / 32) :
    ((cfg0.win (23 : Fin 28)).blk t).view.emb (ix3 (0 : Fin 1) r j) = (ix3 b r j : S2x128x128.Idx) := by
  refine funext fun a => Fin.ext ?_
  fin_cases a
  · show cc0_transform_23 (grid0.coords t) 0 * 1 + 1 * 0 = b.val
    rw [place23 t ht]; omega
  · show 0 * 128 + 1 * r.val = r.val
    omega
  · show 0 * 128 + 1 * j.val = j.val
    omega
theorem emb24 (t : Fin cfg0.N) (ht : t.val = 15 ∨ t.val = 32) (r j : Fin 128) (b : Fin 2) (hb : b.val = t.val / 16 - t.val / 32) :
    ((cfg0.win (24 : Fin 28)).blk t).view.emb (ix3 (0 : Fin 1) r j) = (ix3 b r j : S2x128x128.Idx) := by
  refine funext fun a => Fin.ext ?_
  fin_cases a
  · show cc0_transform_24 (grid0.coords t) 0 * 1 + 1 * 0 = b.val
    rw [place24 t ht]; omega
  · show 0 * 128 + 1 * r.val = r.val
    omega
  · show 0 * 128 + 1 * j.val = j.val
    omega

/-- An index of a stored block, by its row and column. -/
theorem block_index (y : S1x128x128.Idx) : ∃ r j : Fin 128, y = ix3 (0 : Fin 1) r j :=
  ⟨y 1, y 2, funext fun a => by fin_cases a; exacts [Subsingleton.elim (α := Fin 1) _ _, rfl, rfl]⟩

/-- The arrays, from what the write-backs may have written. -/
theorem keys_arr (after : (w : Fin cfg0.W) → Fin cfg0.N → (cfg0.win w).block.Idx → Elt Ideal (cfg0.win w).elt)
    (h : ∀ w u, (cfg0.win w).flush u = true → (rdat m c).Leaves w u (after w u)) :
    ((rdat m c).withAfter after).arrAt (23 : Fin 28) cfg0.N = lastRows m c 512 (by decide) := by
  refine ((rdat m c).withAfter after).arrAt_eq_of_covers (23 : Fin 28) _ (by decide +kernel) fun t hf y => ?_
  have ht := written23 t hf
  obtain ⟨r, j, rfl⟩ := block_index y
  rw [emb23 t ht r j ⟨t.val / 16 - t.val / 32, by omega⟩ rfl]
  have hX := written_eq (fun t X => (rdat m c).Leaves (23 : Fin 28) t X) _ (leaves23 m c) t ht (after (23 : Fin 28) t) (h _ _ hf)
  refine (congrFun hX (ix3 (0 : Fin 1) r j)).trans ((keys_apply _ _ _ r j).trans ?_)
  rw [origin_rows m c t ht r ⟨t.val / 16 - t.val / 32, by omega⟩ rfl, scale_rows, weight_rows]
  rfl
theorem values_arr (after : (w : Fin cfg0.W) → Fin cfg0.N → (cfg0.win w).block.Idx → Elt Ideal (cfg0.win w).elt)
    (h : ∀ w u, (cfg0.win w).flush u = true → (rdat m c).Leaves w u (after w u)) :
    ((rdat m c).withAfter after).arrAt (24 : Fin 28) cfg0.N = lastRows m c 640 (by decide) := by
  refine ((rdat m c).withAfter after).arrAt_eq_of_covers (24 : Fin 28) _ (by decide +kernel) fun t hf y => ?_
  have ht := written24 t hf
  obtain ⟨r, j, rfl⟩ := block_index y
  rw [emb24 t ht r j ⟨t.val / 16 - t.val / 32, by omega⟩ rfl]
  have hX := written_eq (fun t X => (rdat m c).Leaves (24 : Fin 28) t X) _ (leaves24 m c) t ht (after (24 : Fin 28) t) (h _ _ hf)
  refine (congrFun hX (ix3 (0 : Fin 1) r j)).trans ((values_apply _ _ _ r j).trans ?_)
  rw [origin_rows m c t ht r ⟨t.val / 16 - t.val / 32, by omega⟩ rfl, scale_rows, weight_rows]
  rfl

theorem gate_arr (after : (w : Fin cfg0.W) → Fin cfg0.N → (cfg0.win w).block.Idx → Elt Ideal (cfg0.win w).elt)
    (h : ∀ w u, (cfg0.win w).flush u = true → (rdat m c).Leaves w u (after w u)) :
    ((rdat m c).withAfter after).arrAt (27 : Fin 28) cfg0.N = gatingRows m c := by
  refine ((rdat m c).withAfter after).arrAt_eq_of_covers (27 : Fin 28) _ (by decide +kernel) fun t hf y => ?_
  have ht := written27 t hf
  obtain ⟨r, k, d, rfl⟩ : ∃ (r : Fin 512) (k : Fin 4) (d : Fin 128), y = (ix2 r ⟨k.val * 128 + d.val, by omega⟩ : S512x512.Idx) := by
    have h1 : (y 1).val < 512 := (y 1).isLt
    refine ⟨y 0, ⟨(y 1).val / 128, by omega⟩, ⟨(y 1).val % 128, by omega⟩, funext fun a => Fin.ext ?_⟩
    fin_cases a
    · rfl
    · show (y 1).val = (y 1).val / 128 * 128 + (y 1).val % 128
      omega
  have he : ((cfg0.win (27 : Fin 28)).blk t).view.emb (ix2 r (⟨k.val * 128 + d.val, by omega⟩ : Fin 512)) = (ix2 r (⟨k.val * 128 + d.val, by omega⟩ : Fin 512) : S512x512.Idx) := by
    refine funext fun a => Fin.ext ?_
    fin_cases a
    · show 0 * 512 + 1 * r.val = r.val
      omega
    · show 0 * 512 + 1 * (k.val * 128 + d.val) = k.val * 128 + d.val
      omega
  rw [he]
  obtain ⟨Y, -, hX⟩ := h (27 : Fin 28) t hf
  have hX' := hX (sample_kind t ht)
  refine (congrFun hX' _).trans ((gate_apply _ _ _ _ r k d).trans ?_)
  have e1 : rowOf (iblk m c (1 : Fin 28) t) r = fun k => sample m c (ix3 (⟨r.val / 64, by omega⟩ : Fin 8) (⟨r.val % 64, by omega⟩ : Fin 64) k) :=
    funext fun k => block1 m c t r k
  have e6 : (fun e : Fin 512 => iblk m c (6 : Fin 28) t (ix2 (0 : Fin 1) e : S1x512.Idx))
      = fun e => gateNorm m c (ix3 (0 : Fin 1) (⟨e.val / 128, by omega⟩ : Fin 4) (⟨e.val % 128, by omega⟩ : Fin 128)) := funext fun e => block6 m c t e
  rw [e1, e6, scale_rows, weight_rows]
  unfold gatingRows
  exact congrArg₂ (gating _ _ _ _) (Fin.ext (show k.val = (k.val * 128 + d.val) / 128 by omega)) (Fin.ext (show d.val = (k.val * 128 + d.val) % 128 by omega))

/-- An index of the windows, and where a write-back puts it. -/
theorem window_index (y : S8x128x128.Idx) : ∃ (b : Fin 8) (r j : Fin 128), y = ix3 b r j :=
  ⟨y 0, y 1, y 2, funext fun a => by fin_cases a <;> rfl⟩
theorem window_place (b : Fin 8) (r j : Fin 128) (z : S8x128x128.Idx) (h0 : (z 0).val = 0 * 8 + 1 * b.val) (h1 : (z 1).val = 0 * 128 + 1 * r.val)
    (h2 : (z 2).val = 0 * 128 + 1 * j.val) : z = ix3 b r j := by
  refine funext fun a => Fin.ext ?_
  fin_cases a
  · exact h0.trans (show 0 * 8 + 1 * b.val = b.val by omega)
  · exact h1.trans (show 0 * 128 + 1 * r.val = r.val by omega)
  · exact h2.trans (show 0 * 128 + 1 * j.val = j.val by omega)

/-- Windows joined with the sample's new rows are the rolled windows. -/
theorem rolled_eq (t : Fin cfg0.N) (cache : S1x8x128x2x64.Idx → Ideal .f32) (lo : ℕ) (hlo : lo + 128 ≤ 1792) {y : Vec Ideal S8x128x128 .f32} {rows : FVec Ideal S512x128 .f32}
    (hy : ∀ (b : Fin 8) (r j : Fin 128), y (ix3 b r j) = cache (ix5 (0 : Fin 1) b r (⟨j.val / 64, by omega⟩ : Fin 2) (⟨j.val % 64, by omega⟩ : Fin 64)))
    (hrows : ∀ (r : Fin 512) (j : Fin 128), rows (ix2 r j) = project (rowOf (iblk m c (1 : Fin 28) t) r) (scaleOf (iblk m c (4 : Fin 28) t)) (weightsOf (iblk m c (5 : Fin 28) t)) ⟨lo + j.val, by omega⟩)
    (b : Fin 8) (r j : Fin 128) : joined y rows (ix3 b r j) = rolled m c cache lo hlo (ix3 b r j) := by
  unfold joined rolled
  refine dite_congr rfl (fun hr => hy b _ j) fun hr => (hrows _ j).trans ?_
  replace hr : ¬ r.val < 64 := hr
  have e1 : ∀ q : Fin 512, q.val = 64 * b.val + (r.val - 64) → rowOf (iblk m c (1 : Fin 28) t) q = fun k => sample m c (ix3 b (⟨r.val - 64, by omega⟩ : Fin 64) k) := fun q hq =>
    funext fun k => (block1 m c t q k).trans (congrArg₂ (fun u v => sample m c (ix3 u v k)) (Fin.ext (show q.val / 64 = b.val by omega))
      (Fin.ext (show q.val % 64 = r.val - 64 by omega)))
  rw [scale_rows, weight_rows]
  exact congrArg (fun f => project f _ _ _) (e1 _ rfl)

theorem rolled_keys_arr (after : (w : Fin cfg0.W) → Fin cfg0.N → (cfg0.win w).block.Idx → Elt Ideal (cfg0.win w).elt)
    (h : ∀ w u, (cfg0.win w).flush u = true → (rdat m c).Leaves w u (after w u)) :
    ((rdat m c).withAfter after).arrAt (25 : Fin 28) cfg0.N = rolled m c (keyCache m c) 512 (by decide) := by
  refine ((rdat m c).withAfter after).arrAt_eq_of_covers (25 : Fin 28) _ (by decide +kernel) fun t hf y => ?_
  obtain ⟨b, r, j, rfl⟩ := window_index y
  rw [show ((cfg0.win (25 : Fin 28)).blk t).view.emb (ix3 b r j) = (ix3 b r j : S8x128x128.Idx) from window_place b r j _ rfl rfl rfl]
  obtain ⟨Y, -, hX⟩ := h (25 : Fin 28) t hf
  refine (congrFun (hX (sample_kind t (written25 t hf))) _).trans ?_
  exact rolled_eq m c t (keyCache m c) 512 (by decide) (fun b r j => block2 m c t b r j) (fun r j => new_keys_apply _ _ _ r j) b r j
theorem rolled_values_arr (after : (w : Fin cfg0.W) → Fin cfg0.N → (cfg0.win w).block.Idx → Elt Ideal (cfg0.win w).elt)
    (h : ∀ w u, (cfg0.win w).flush u = true → (rdat m c).Leaves w u (after w u)) :
    ((rdat m c).withAfter after).arrAt (26 : Fin 28) cfg0.N = rolled m c (valueCache m c) 640 (by decide) := by
  refine ((rdat m c).withAfter after).arrAt_eq_of_covers (26 : Fin 28) _ (by decide +kernel) fun t hf y => ?_
  obtain ⟨b, r, j, rfl⟩ := window_index y
  rw [show ((cfg0.win (26 : Fin 28)).blk t).view.emb (ix3 b r j) = (ix3 b r j : S8x128x128.Idx) from window_place b r j _ rfl rfl rfl]
  obtain ⟨Y, -, hX⟩ := h (26 : Fin 28) t hf
  refine (congrFun (hX (sample_kind t (written26 t hf))) _).trans ?_
  exact rolled_eq m c t (valueCache m c) 640 (by decide) (fun b r j => block3 m c t b r j) (fun r j => new_values_apply _ _ _ r j) b r j

set_option maxHeartbeats 2000000 in
/-- Each execution ends with the five arrays as specified. -/
theorem value : θ_run (defs (F := Ideal)) (onTc (τ := τ) (main (F := Ideal))) ⟨m, fun _ => 0, ρ⟩ (fun r => ∀ c : Dev nD,
      r.2.mem ((c.tc : Thread nD τ).loc main_v60_6) = lastRows m c 512 (by decide)
      ∧ r.2.mem ((c.tc : Thread nD τ).loc main_v60_7) = lastRows m c 640 (by decide)
      ∧ r.2.mem ((c.tc : Thread nD τ).loc main_v60_8) = rolled m c (keyCache m c) 512 (by decide)
      ∧ r.2.mem ((c.tc : Thread nD τ).loc main_v60_9) = rolled m c (valueCache m c) 640 (by decide)
      ∧ r.2.mem ((c.tc : Thread nD τ).loc main_v60_10) = gatingRows m c) :=
  (θ_run defs _ _).mono (fun _ h c => by
    obtain ⟨after, hL, hR⟩ := h.1.exists_exact c
    exact ⟨(hR (23 : Fin 28)).trans (keys_arr m c after hL), (hR (24 : Fin 28)).trans (values_arr m c after hL), (hR (25 : Fin 28)).trans (rolled_keys_arr m c after hL),
      (hR (26 : Fin 28)).trans (rolled_values_arr m c after hL), (hR (27 : Fin 28)).trans (gate_arr m c after hL)⟩)
    (run_main m ρ)

end Cert.Kernel2Ideal.Mixer

end
-- ==== Proof.Mixer.Reference.lean ====
module

public import proofs.«01_k».proof.Proof.Gen.Reference2Ideal.Read
public import proofs.«01_k».proof.Proof.Mixer.Spec
public import Idealize.ShloMosaic.Lib.Pointwise

/-! What the reference's results hold. -/

set_option maxRecDepth 16384

@[expose] public noncomputable section

namespace Cert.Reference2Ideal.Mixer

open Cert.Reference2Ideal Cert.Reference2Ideal.Gen Cert.Reference2Ideal.Read Cert.Mixer
open Idealize.ShloMosaic Idealize.ShloMosaic.TcCoe Idealize.SL.Sem Idealize.ShloMosaic.StableHlo

variable (x0 : S2x8192x1024.Idx → Ideal .f32) (x1 : S8x64x1024.Idx → Ideal .f32) (x4 : S1x1024.Idx → Ideal .f32) (x5 : S1x1024x1792.Idx → Ideal .f32)
  (x6 : S1x4x128.Idx → Ideal .f32) (x2 x3 : S1x8x128x2x64.Idx → Ideal .f32)

/-- The weights of the row scaling, the input weights, and the weights of the gating rows' scaling. -/
abbrev scaleOf (k : Fin 1024) : EReal := x4 (ix2 (0 : Fin 1) k)
abbrev weightsOf (k : Fin 1024) (n : Fin 1792) : EReal := x5 (ix3 (0 : Fin 1) k n)
abbrev headScaleOf (e : Fin 512) : EReal := x6 (ix3 (0 : Fin 1) (⟨e.val / 128, by omega⟩ : Fin 4) (⟨e.val % 128, by omega⟩ : Fin 128))

/-- The prompt's projection. -/
theorem prompt_apply (b : Fin 2) (r : Fin 8192) (n : Fin 1792) :
    val_main_v15 (F := Ideal) x0 x4 x5 (ix3 b r n) = project (fun k => x0 (ix3 b r k)) (scaleOf x4) (weightsOf x5) n := by
  pointwise [val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The sample's projection. -/
theorem sample_apply (b : Fin 8) (r : Fin 64) (n : Fin 1792) :
    val_main_v31 (F := Ideal) x1 x4 x5 (ix3 b r n) = project (fun k => x1 (ix3 b r k)) (scaleOf x4) (weightsOf x5) n := by
  pointwise [val_main_v31, val_main_v30, val_main_v29, val_main_v28, val_main_v27, val_main_v26, val_main_v25, val_main_v24, val_main_v23, val_main_v22,
    val_main_v21, val_main_v20, val_main_v19, val_main_v18, val_main_v17, val_main_v16, val_main_cst_2, val_main_cst_3, val_main_cst_4]
  rfl

/-- The keys and the values. -/
theorem keys_apply (b : Fin 2) (r j : Fin 128) :
    val_main_v64 (F := Ideal) x0 x4 x5 (ix3 b r j)
      = project (fun k => x0 (ix3 b ⟨8064 + r.val, by omega⟩ k)) (scaleOf x4) (weightsOf x5) ⟨512 + j.val, by omega⟩ := by
  rw [← prompt_apply]
  pointwise [val_main_v64]
theorem values_apply (b : Fin 2) (r j : Fin 128) :
    val_main_v65 (F := Ideal) x0 x4 x5 (ix3 b r j)
      = project (fun k => x0 (ix3 b ⟨8064 + r.val, by omega⟩ k)) (scaleOf x4) (weightsOf x5) ⟨640 + j.val, by omega⟩ := by
  rw [← prompt_apply]
  pointwise [val_main_v65]

/-- A window as the reference joins it, each row's two heads one after the other; -/
theorem heads_flat (y : S1x8x128x2x64.Idx → Ideal .f32) (b : Fin 8) (r j : Fin 128) :
    shapeCast S8x128x128 (shapeCast S8x128x2x64 y shapeCasts_S1x8x128x2x64_S8x128x2x64) shapeCasts_S8x128x2x64_S8x128x128 (ix3 b r j)
      = y (ix5 (0 : Fin 1) b r (⟨j.val / 64, by omega⟩ : Fin 2) (⟨j.val % 64, by omega⟩ : Fin 64)) := by
  refine (shapeCast_apply _ _ _ (ix4 b r (⟨j.val / 64, by omega⟩ : Fin 2) (⟨j.val % 64, by omega⟩ : Fin 64)) ?_).trans (shapeCast_apply _ _ _ _ ?_)
  · rw [Shape.rowMajor_val_four, Shape.rowMajor_val_three]
    show ((b.val * 128 + r.val) * 2 + j.val / 64) * 64 + j.val % 64 = (b.val * 128 + r.val) * 128 + j.val
    omega
  · rw [Shape.rowMajor_val_five, Shape.rowMajor_val_four]
    show (((0 * 8 + b.val) * 128 + r.val) * 2 + j.val / 64) * 64 + j.val % 64 = ((b.val * 128 + r.val) * 2 + j.val / 64) * 64 + j.val % 64
    omega

/-- the joined rows from the sixty-fourth on; -/
theorem joined_apply (y : S8x128x128.Idx → Ideal .f32) (z : S8x64x128.Idx → Ideal .f32) (b : Fin 8) (r j : Fin 128) :
    extractStridedSlice S8x128x128 ![0, 64, 0] (concatenate S8x192x128 1 [⟨S8x128x128, y⟩, ⟨S8x64x128, z⟩] concatenates_S8x128x128_S8x64x128_S8x192x128_d1)
        slices_S8x192x128_S8x128x128_0_64_0 (ix3 b r j)
      = if h : r.val < 64 then y (ix3 b (⟨64 + r.val, by omega⟩ : Fin 128) j) else z (ix3 b (⟨r.val - 64, by omega⟩ : Fin 64) j) := by
  pointwise []
  by_cases hr : r.val < 64
  · rw [dif_pos hr, dif_pos (by omega)]
  · rw [dif_neg hr, dif_neg (by omega)]
    exact congrArg (fun k => z (ix3 b k j)) (Fin.ext (show 64 + r.val - 128 = r.val - 64 by omega))

/-- and the rolled windows of keys and of values. -/
theorem rolled_keys_apply (b : Fin 8) (r j : Fin 128) :
    val_main_v66 (F := Ideal) x1 x2 x4 x5 (ix3 b r j)
      = if h : r.val < 64 then x2 (ix5 (0 : Fin 1) b (⟨64 + r.val, by omega⟩ : Fin 128) (⟨j.val / 64, by omega⟩ : Fin 2) (⟨j.val % 64, by omega⟩ : Fin 64))
        else project (fun k => x1 (ix3 b (⟨r.val - 64, by omega⟩ : Fin 64) k)) (scaleOf x4) (weightsOf x5) ⟨512 + j.val, by omega⟩ := by
  refine (joined_apply (val_main_v57 (F := Ideal) x2) (val_main_v58 (F := Ideal) x1 x4 x5) b r j).trans ?_
  refine dite_congr rfl (fun _ => ?_) fun _ => ?_
  · exact heads_flat x2 b _ j
  · rw [← sample_apply]
    pointwise [val_main_v58]
theorem rolled_values_apply (b : Fin 8) (r j : Fin 128) :
    val_main_v67 (F := Ideal) x1 x3 x4 x5 (ix3 b r j)
      = if h : r.val < 64 then x3 (ix5 (0 : Fin 1) b (⟨64 + r.val, by omega⟩ : Fin 128) (⟨j.val / 64, by omega⟩ : Fin 2) (⟨j.val % 64, by omega⟩ : Fin 64))
        else project (fun k => x1 (ix3 b (⟨r.val - 64, by omega⟩ : Fin 64) k)) (scaleOf x4) (weightsOf x5) ⟨640 + j.val, by omega⟩ := by
  refine (joined_apply (val_main_v61 (F := Ideal) x3) (val_main_v62 (F := Ideal) x1 x4 x5) b r j).trans ?_
  refine dite_congr rfl (fun _ => ?_) fun _ => ?_
  · exact heads_flat x3 b _ j
  · rw [← sample_apply]
    pointwise [val_main_v62]

/-- The sample's smooth units, -/
theorem smooth_apply (b : Fin 8) (r : Fin 64) (n : Fin 512) :
    val_main_v40 (F := Ideal) x1 x4 x5 (ix3 b r n) = smooth (project (fun k => x1 (ix3 b r k)) (scaleOf x4) (weightsOf x5) ⟨1280 + n.val, by omega⟩) := by
  rw [← sample_apply]
  pointwise [val_main_v40, val_main_v39, val_main_v38, val_main_v37, val_main_v36, val_main_v35, val_main_v34, val_main_v33, val_main_v32,
    val_main_cst_5, val_main_cst_6, val_main_cst_7]
  rfl

/-- by heads. -/
theorem heads_apply (b : Fin 8) (r : Fin 64) (h : Fin 4) (d : Fin 128) :
    val_main_v41 (F := Ideal) x1 x4 x5 (ix4 b r h d)
      = smooth (project (fun k => x1 (ix3 b r k)) (scaleOf x4) (weightsOf x5) ⟨1280 + (h.val * 128 + d.val), by omega⟩) := by
  rw [val_main_v41_apply]
  refine (congrArg (val_main_v40 (F := Ideal) x1 x4 x5) (funext fun a => Fin.ext ?_)).trans (smooth_apply x1 x4 x5 b r ⟨h.val * 128 + d.val, by omega⟩)
  match a with
  | ⟨0, _⟩ => show (((b.val * 64 + r.val) * 4 + h.val) * 128 + d.val) / 32768 = b.val; omega
  | ⟨1, _⟩ => show (((b.val * 64 + r.val) * 4 + h.val) * 128 + d.val) / 512 % 64 = r.val; omega
  | ⟨2, _⟩ => show (((b.val * 64 + r.val) * 4 + h.val) * 128 + d.val) % 512 = h.val * 128 + d.val; omega

/-- The gating rows by heads, -/
theorem gating_apply (b : Fin 8) (r : Fin 64) (h : Fin 4) (d : Fin 128) :
    val_main_v55 (F := Ideal) x1 x4 x5 x6 (ix4 b r h d)
      = gating (fun k => x1 (ix3 b r k)) (scaleOf x4) (weightsOf x5) (headScaleOf x6) h d := by
  unfold gating
  simp only [← heads_apply]
  pointwise [val_main_v55, val_main_v54, val_main_v53, val_main_v52, val_main_v51, val_main_v50, val_main_v49, val_main_v48, val_main_v47, val_main_v46,
    val_main_v45, val_main_v44, val_main_v43, val_main_v42, val_main_cst_8, val_main_cst_9, val_main_cst_10, scaled]
  refine congrArg _ (congrArg x6 (funext fun a => Fin.ext ?_))
  match a with
  | ⟨0, _⟩ => rfl
  | ⟨1, _⟩ => show h.val = (h.val * 128 + d.val) / 128; omega
  | ⟨2, _⟩ => show d.val = (h.val * 128 + d.val) % 128; omega

/-- and by rows. -/
theorem gate_apply (r : Fin 512) (h : Fin 4) (d : Fin 128) :
    val_main_v68 (F := Ideal) x1 x4 x5 x6 (ix2 r ⟨h.val * 128 + d.val, by omega⟩)
      = gating (fun k => x1 (ix3 (⟨r.val / 64, by omega⟩ : Fin 8) (⟨r.val % 64, by omega⟩ : Fin 64) k)) (scaleOf x4) (weightsOf x5) (headScaleOf x6) h d := by
  rw [val_main_v68_apply]
  refine (congrArg (val_main_v55 (F := Ideal) x1 x4 x5 x6) (funext fun a => Fin.ext ?_)).trans (gating_apply x1 x4 x5 x6 ⟨r.val / 64, by omega⟩ ⟨r.val % 64, by omega⟩ h d)
  match a with
  | ⟨0, _⟩ => show (r.val * 512 + (h.val * 128 + d.val)) / 32768 = r.val / 64; omega
  | ⟨1, _⟩ => show (r.val * 512 + (h.val * 128 + d.val)) / 512 % 64 = r.val % 64; omega
  | ⟨2, _⟩ => show (r.val * 512 + (h.val * 128 + d.val)) / 128 % 4 = h.val; omega
  | ⟨3, _⟩ => show (r.val * 512 + (h.val * 128 + d.val)) % 128 = d.val; omega

/-- The five results as arrays: each index is a stream, a row and a column; or a row and a column. -/
theorem keys_eq : val_main_v64 (F := Ideal) x0 x4 x5 = fun i : S2x128x128.Idx =>
      project (fun k => x0 (ix3 (i 0) ⟨8064 + (i 1).val, by have : (i 1).val < 128 := (i 1).isLt; omega⟩ k)) (scaleOf x4) (weightsOf x5)
        ⟨512 + (i 2).val, by have : (i 2).val < 128 := (i 2).isLt; omega⟩ := funext fun i => by
  rw [show i = ix3 (i 0) (i 1) (i 2) from funext fun a => by fin_cases a <;> rfl]
  exact keys_apply x0 x4 x5 (i 0) (i 1) (i 2)
theorem values_eq : val_main_v65 (F := Ideal) x0 x4 x5 = fun i : S2x128x128.Idx =>
      project (fun k => x0 (ix3 (i 0) ⟨8064 + (i 1).val, by have : (i 1).val < 128 := (i 1).isLt; omega⟩ k)) (scaleOf x4) (weightsOf x5)
        ⟨640 + (i 2).val, by have : (i 2).val < 128 := (i 2).isLt; omega⟩ := funext fun i => by
  rw [show i = ix3 (i 0) (i 1) (i 2) from funext fun a => by fin_cases a <;> rfl]
  exact values_apply x0 x4 x5 (i 0) (i 1) (i 2)
theorem rolled_keys_eq : val_main_v66 (F := Ideal) x1 x2 x4 x5 = fun i : S8x128x128.Idx =>
      if h : (i 1).val < 64 then x2 (ix5 (0 : Fin 1) (i 0) (⟨64 + (i 1).val, by omega⟩ : Fin 128) (⟨(i 2).val / 64, by have : (i 2).val < 128 := (i 2).isLt; omega⟩ : Fin 2) (⟨(i 2).val % 64, by omega⟩ : Fin 64))
      else project (fun k => x1 (ix3 (i 0) (⟨(i 1).val - 64, by have : (i 1).val < 128 := (i 1).isLt; omega⟩ : Fin 64) k)) (scaleOf x4) (weightsOf x5)
        ⟨512 + (i 2).val, by have : (i 2).val < 128 := (i 2).isLt; omega⟩ := funext fun i => by
  rw [show i = ix3 (i 0) (i 1) (i 2) from funext fun a => by fin_cases a <;> rfl]
  exact rolled_keys_apply x1 x4 x5 x2 (i 0) (i 1) (i 2)
theorem rolled_values_eq : val_main_v67 (F := Ideal) x1 x3 x4 x5 = fun i : S8x128x128.Idx =>
      if h : (i 1).val < 64 then x3 (ix5 (0 : Fin 1) (i 0) (⟨64 + (i 1).val, by omega⟩ : Fin 128) (⟨(i 2).val / 64, by have : (i 2).val < 128 := (i 2).isLt; omega⟩ : Fin 2) (⟨(i 2).val % 64, by omega⟩ : Fin 64))
      else project (fun k => x1 (ix3 (i 0) (⟨(i 1).val - 64, by have : (i 1).val < 128 := (i 1).isLt; omega⟩ : Fin 64) k)) (scaleOf x4) (weightsOf x5)
        ⟨640 + (i 2).val, by have : (i 2).val < 128 := (i 2).isLt; omega⟩ := funext fun i => by
  rw [show i = ix3 (i 0) (i 1) (i 2) from funext fun a => by fin_cases a <;> rfl]
  exact rolled_values_apply x1 x4 x5 x3 (i 0) (i 1) (i 2)
theorem gate_eq : val_main_v68 (F := Ideal) x1 x4 x5 x6 = fun i : S512x512.Idx =>
      gating (fun k => x1 (ix3 (⟨(i 0).val / 64, by have : (i 0).val < 512 := (i 0).isLt; omega⟩ : Fin 8) (⟨(i 0).val % 64, by omega⟩ : Fin 64) k))
        (scaleOf x4) (weightsOf x5) (headScaleOf x6)
        ⟨(i 1).val / 128, by have : (i 1).val < 512 := (i 1).isLt; omega⟩ ⟨(i 1).val % 128, by omega⟩ := funext fun i => by
  have h1 : (i 1).val < 512 := (i 1).isLt
  rw [show i = ix2 (i 0) (⟨(i 1).val / 128 * 128 + (i 1).val % 128, by omega⟩ : Fin 512) from funext fun a => Fin.ext (by
    fin_cases a
    · rfl
    · show (i 1).val = (i 1).val / 128 * 128 + (i 1).val % 128
      omega)]
  refine (gate_apply x1 x4 x5 x6 (i 0) ⟨(i 1).val / 128, by omega⟩ ⟨(i 1).val % 128, by omega⟩).trans ?_
  refine congrArg₂ (gating _ _ _ _) (Fin.ext ?_) (Fin.ext ?_)
  · show (i 1).val / 128 = ((i 1).val / 128 * 128 + (i 1).val % 128) / 128
    omega
  · show (i 1).val % 128 = ((i 1).val / 128 * 128 + (i 1).val % 128) % 128
    omega

end Cert.Reference2Ideal.Mixer

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_experts_named
public import proofs.«01_k».proof.Proof.ExpertsIdeal.Tables
public import proofs.«01_k».proof.Proof.ExpertsIdeal.Value
public import proofs.«01_k».proof.Proof.ExpertsBits.Tables
public import proofs.«01_k».proof.Proof.Experts.Reference
public import proofs.«01_k».proof.Proof.Gen.Kernel2
public import proofs.«01_k».proof.Proof.Gen.Kernel2Ideal
public import proofs.«01_k».proof.Proof.Gen.Reference2Ideal
public import proofs.«01_k».proof.Proof.MixerIdeal.Value
public import proofs.«01_k».proof.Proof.MixerBits.Launch
public import proofs.«01_k».proof.Proof.Mixer.Reference
public import Idealize.ShloMosaic.Lib.Quiescent

/-! The claims of the experts' call and of the mixer's: the kernels and the references run, leave their arguments and every
    semaphore counter as they were, and end with equal results over the extended reals. -/

@[expose] public noncomputable section

namespace Cert.Proof

open Idealize.ShloMosaic Idealize.ShloMosaic.TcCoe Idealize.SL.Sem

/-- The two programs end with equal results: each result array is the specified output of the arguments, which agree. -/
theorem equal : Cert.algebraic_KernelIdeal_ReferenceIdeal := fun m g m' g' hPre hargs => by
  let a := Cert.KernelIdeal.Experts.admitted m hPre
  have hp := Cert.KernelIdeal.Experts.pinned m hPre
  refine ⟨fun c => (Cert.KernelIdeal.Experts.dats a m g 0 c).arrAt (5 : Fin 6) (Cert.KernelIdeal.Experts.cfgT a).N, ?_, ?_⟩
  · refine (θ_run Cert.KernelIdeal.defs _ _).mono (fun r h c => ⟨(h.1 c).1 (5 : Fin 6), h.2 c⟩)
      (θ_run_and (Cert.KernelIdeal.Experts.run_main a m g hp) (Cert.KernelIdeal.Experts.unchanged a m g hp))
  · refine (θ_run Cert.ReferenceIdeal.defs _ _).mono (fun r h c => ⟨(h c).1.trans ?_, (h c).2⟩) (Cert.ReferenceIdeal.Value.run m' g')
    refine (Cert.ReferenceIdeal.Read.val_main_v35_eq m' c).trans ((Cert.ReferenceIdeal.Experts.result_eq _ _ _ _ _ _ _).trans ?_)
    obtain ⟨h0, h1, h2, h3, h4, h5, h6⟩ := hargs c
    rw [h0, h1, h2, h3, h4, h5, h6]
    refine Eq.trans ?_ (Cert.KernelIdeal.Experts.result_arr a m g c).symm
    rw [hp.1 c, hp.2 c]

/-- The reference terminates, its arguments end unchanged, and it has no semaphore, so that every counter ends at zero. -/
theorem reference_frame : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

/-- The mixer's two programs end with equal keys, values, rolled windows and gating rows: both are the same projections of the arguments. -/
theorem mixer_equal : Cert.algebraic_Kernel2Ideal_Reference2Ideal := fun m g m' g' _ hargs => by
  refine ⟨fun c => Cert.Kernel2Ideal.Mixer.lastRows m c 512 (by decide), fun c => Cert.Kernel2Ideal.Mixer.lastRows m c 640 (by decide),
    fun c => Cert.Kernel2Ideal.Mixer.rolled m c (Cert.Kernel2Ideal.Mixer.keyCache m c) 512 (by decide),
    fun c => Cert.Kernel2Ideal.Mixer.rolled m c (Cert.Kernel2Ideal.Mixer.valueCache m c) 640 (by decide),
    fun c => Cert.Kernel2Ideal.Mixer.gatingRows m c, ?_, ?_⟩
  · exact (θ_run Cert.Kernel2Ideal.defs _ _).mono (fun r h c => ⟨(h.1 c).1, (h.1 c).2.1, (h.1 c).2.2.1, (h.1 c).2.2.2.1, (h.1 c).2.2.2.2, h.2.1 c⟩)
      (θ_run_and (Cert.Kernel2Ideal.Mixer.value m g) (Cert.Kernel2Ideal.Mixer.frame m g))
  · refine (θ_run Cert.Reference2Ideal.defs _ _).mono (fun r h c => ⟨(h c).1.trans ?_, (h c).2.1.trans ?_, (h c).2.2.1.trans ?_,
        (h c).2.2.2.1.trans ?_, (h c).2.2.2.2.1.trans ?_, (h c).2.2.2.2.2⟩)
      (Cert.Reference2Ideal.Value.run m' g')
    all_goals obtain ⟨h0, h1, h2, h3, h4, h5, h6, -⟩ := hargs c
    · refine (Cert.Reference2Ideal.Read.val_main_v64_eq _ _ _).trans ((Cert.Reference2Ideal.Mixer.keys_eq _ _ _).trans ?_)
      rw [h0, h4, h5]; rfl
    · refine (Cert.Reference2Ideal.Read.val_main_v65_eq _ _ _).trans ((Cert.Reference2Ideal.Mixer.values_eq _ _ _).trans ?_)
      rw [h0, h4, h5]; rfl
    · refine (Cert.Reference2Ideal.Read.val_main_v66_eq _ _ _ _).trans ((Cert.Reference2Ideal.Mixer.rolled_keys_eq _ _ _ _).trans ?_)
      rw [h1, h2, h4, h5]; rfl
    · refine (Cert.Reference2Ideal.Read.val_main_v67_eq _ _ _ _).trans ((Cert.Reference2Ideal.Mixer.rolled_values_eq _ _ _ _).trans ?_)
      rw [h1, h3, h4, h5]; rfl
    · refine (Cert.Reference2Ideal.Read.val_main_v68_eq m' c).trans ((Cert.Reference2Ideal.Mixer.gate_eq _ _ _ _).trans ?_)
      rw [h1, h4, h5, h6]; rfl

/-- The mixer's reference likewise. -/
theorem mixer_reference_frame : Cert.quiescent_Reference2Ideal := fun m ρ _ =>
  (θ_run Cert.Reference2Ideal.defs _ _).mono (fun r h => ⟨fun c => (h c).2.2.2.2.2, sem_eq_zero_of_no_sems rfl r.2⟩) (Cert.Reference2Ideal.Value.run m ρ)

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Pre_experts_named.Gen.facts,
    fun m ρ h => Cert.Kernel.Experts.frame _ m ρ (Cert.Kernel.Experts.pinned m h),
    fun m ρ h => Cert.KernelIdeal.Experts.frame _ m ρ (Cert.KernelIdeal.Experts.pinned m h),
    reference_frame,
    fun m ρ _ => reference_frame m ρ trivial,
    fun m ρ _ => Cert.Kernel2.Mixer.frame m ρ,
    fun m ρ _ => Cert.Kernel2Ideal.Mixer.frame m ρ,
    mixer_reference_frame,
    trivial,
    equal,
    trivial,
    mixer_equal⟩

end Cert.Proof

end
